-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x7x7x256 : Shape := ⟨4, ![512, 7, 7, 256]⟩
abbrev S12544x1024 : Shape := ⟨2, ![12544, 1024]⟩
abbrev S1024 : Shape := ⟨1, ![1024]⟩
abbrev S1024x1024 : Shape := ⟨2, ![1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S_ : Shape := ⟨0, ![]⟩

class Facts : Prop where
  bcast_S_S512x7x7x256 : S_.BroadcastsInDim S512x7x7x256 (![] : Fin 0 → Fin S512x7x7x256.rank)
  reducesTo_S512x7x7x256_S_d0_1_2_3 : S512x7x7x256.ReducesTo [0, 1, 2, 3] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024 .f32) (main_arg6 : FVec F S1024x1024 .f32) (main_arg7 : FVec F S1024 .f32) (main_arg8 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S512x7x7x256 .f32) (main_arg1 : FVec F S512x7x7x256 .f32) (main_arg2 : FVec F S12544x1024 .f32) (main_arg3 : FVec F S1024 .f32) (main_arg4 : FVec F S1024 .f32) (main_arg5 : FVec F S1024 .f32) (main_arg6 : FVec F S1024x1024 .f32) (main_arg7 : FVec F S1024 .f32) (main_arg8 : FVec F S1024 .f32) (main_arg9 : FVec F S1024 .f32) (main_arg10 : FVec F S1024x81 .f32) (main_arg11 : FVec F S81 .f32) (main_arg12 : FVec F S1024x324 .f32) (main_arg13 : FVec F S324 .f32) : IVec S_ 1 :=
  let main_v0 : FVec F S512x7x7x256 .f32 := Host.absf main_arg0
  let main_cst : FVec F S_ .f32 := constant S_ .f32 0x7F800000#32
  let main_v1 : FVec F S512x7x7x256 .f32 := broadcastInDim S512x7x7x256 ![] bcast_S_S512x7x7x256 main_cst
  let main_v2 : IVec S512x7x7x256 1 := cmpf .olt main_v0 main_v1
  let main_c : IVec S_ 1 := constantI S_ 1 1#1
  let main_v3 : IVec S_ 1 := (fun x v => Host.reduce IntOp.andi x v reducesTo_S512x7x7x256_S_d0_1_2_3 h_S_) main_v2 main_c
  let main_v4 : FVec F S512x7x7x256 .f32 := Host.absf main_arg1
  let main_cst_0 : FVec F S_ .f32 := constant S_ .f32 0x7F800000#32
  let main_v5 : FVec F S512x7x7x256 .f32 := broadcastInDim S512x7x7x256 ![] bcast_S_S512x7x7x256 main_cst_0
  let main_v6 : IVec S512x7x7x256 1 := cmpf .olt main_v4 main_v5
  let main_c_1 : IVec S_ 1 := constantI S_ 1 1#1
  let main_v7 : IVec S_ 1 := (fun x v => Host.reduce IntOp.andi x v reducesTo_S512x7x7x256_S_d0_1_2_3 h_S_) main_v6 main_c_1
  let main_v8 : IVec S_ 1 := andi main_v3 main_v7
  let main_v9 : FVec F S12544x1024 .f32 := Host.absf main_arg2
  let main_cst_2 : FVec F S_ .f32 := constant S_ .f32 0x7F800000#32
  let main_v10 : FVec F S12544x1024 .f32 := broadcastInDim S12544x1024 ![] bcast_S_S12544x1024 main_cst_2
  let main_v11 : IVec S12544x1024 1 := cmpf .olt main_v9 main_v10
  let main_c_3 : IVec S_ 1 := constantI S_ 1 1#1
  let main_v12 : IVec S_ 1 := (fun x v => Host.reduce IntOp.andi x v reducesTo_S12544x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S512x7x7x256 : Shape := ⟨4, ![512, 7, 7, 256]⟩
abbrev S12544x1024 : Shape := ⟨2, ![12544, 1024]⟩
abbrev S1024 : Shape := ⟨1, ![1024]⟩
abbrev S1024x1024 : Shape := ⟨2, ![1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S7x7x512x256 : Shape := ⟨4, ![7, 7, 512, 256]⟩
abbrev S81x1024 : Shape := ⟨2, ![81, 1024]⟩
abbrev S324x1024 : Shape := ⟨2, ![324, 1024]⟩
abbrev S1x1024 : Shape := ⟨2, ![1, 1024]⟩
abbrev S81x1 : Shape := ⟨2, ![81, 1]⟩
abbrev S324x1 : Shape := ⟨2, ![324, 1]⟩
abbrev S1x7x512x256 : Shape := ⟨4, ![1, 7, 512, 256]⟩
abbrev S1792x1024 : Shape := ⟨2, ![1792, 1024]⟩
abbrev S7x512x256 : Shape := ⟨3, ![7, 512, 256]⟩
abbrev S1x512x256 : Shape := ⟨3, ![1, 512, 256]⟩
abbrev S512x256 : Shape := ⟨2, ![512, 256]⟩
abbrev S256x1024 : Shape := ⟨2, ![256, 1024]⟩
abbrev S512x1024 : Shape := ⟨2, ![512, 1024]⟩
abbrev S81x512 : Shape := ⟨2, ![81, 512]⟩
abbrev S512 : Shape := ⟨1, ![512]⟩
abbrev S1x512 : Shape := ⟨2, ![1, 512]⟩
abbrev S324x512 : Shape := ⟨2, ![324, 512]⟩
abbrev S81x4x1024 : Shape := ⟨3, ![81, 4, 1024]⟩
abbrev S1024x81x4 : Shape := ⟨3, ![1024, 81, 4]⟩

abbrev nBuf : Space → Nat
  | .hbm => 31
  | .vmem => 20
  | .smem => 0
  | _ => 0

abbrev bufTy : (tb : Table) → Fin (tcTables nBuf tb) → BufTy
  | .hbm, ⟨0, _⟩ => ⟨S512x7x7x256, .f32⟩
  | .hbm, ⟨1, _⟩ => ⟨S512x7x7x256, .f32⟩
  | .hbm, ⟨2, _⟩ => ⟨S12544x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x81, .f32⟩
  | .hbm, ⟨11, _⟩ => ⟨S81, .f32⟩
  | .hbm, ⟨12, _⟩ => ⟨S1024x324, .f32⟩
  | .hbm, ⟨13, _⟩ => ⟨S324, .f32⟩
  | .hbm, ⟨14, _⟩ => ⟨S7x7x512x256, .f32⟩
  | .hbm, ⟨15, _⟩ => ⟨S7x7x512x256, .f32⟩
  | .hbm, ⟨16, _⟩ => ⟨S81x1024, .f32⟩
  | .hbm, ⟨17, _⟩ => ⟨S324x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S81x1, .f32⟩
  | .hbm, ⟨23, _⟩ => ⟨S324x1, .f32⟩
  | .hbm, ⟨24, _⟩ => ⟨S81x1024, .f32⟩
  | .hbm, ⟨25, _⟩ => ⟨S81x1024, .f32⟩
  | .hbm, ⟨26, _⟩ => ⟨S324x1024, .f32⟩
  | .hbm, ⟨27, _⟩ => ⟨S1024x81, .f32⟩
  | .hbm, ⟨28, _⟩ => ⟨S1024x81, .f32⟩
  | .hbm, ⟨29, _⟩ => ⟨S81x4x1024, .f32⟩
  | .hbm, ⟨30, _⟩ => ⟨S1024x81x4, .f32⟩
  | .local _ .vmem, ⟨0, _⟩ => ⟨S1x7x512x256, .f32⟩
  | .local _ .vmem, ⟨1, _⟩ => ⟨S1x7x512x256, .f32⟩
  | .local _ .vmem, ⟨2, _⟩ => ⟨S1x7x512x256, .f32⟩
  | .local _ .vmem, ⟨3, _⟩ => ⟨S1x7x512x256, .f32⟩
  | .local _ .vmem, ⟨4, _⟩ => ⟨S1792x1024, .f32⟩
  | .local _ .vmem, ⟨5, _⟩ => ⟨S1792x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S81x1024, .f32⟩
  | .local _ .vmem, ⟨12, _⟩ => ⟨S81x1, .f32⟩
  | .local _ .vmem, ⟨13, _⟩ => ⟨S324x1024, .f32⟩
  | .local _ .vmem, ⟨14, _⟩ => ⟨S324x1, .f32⟩
  | .local _ .vmem, ⟨15, _⟩ => ⟨S81x1024, .f32⟩
  | .local _ .vmem, ⟨16, _⟩ => ⟨S81x1024, .f32⟩
  | .local _ .vmem, ⟨17, _⟩ => ⟨S324x1024, .f32⟩
  | .local _ .vmem, ⟨18, _⟩ => ⟨S1024x1024, .f32⟩
  | .local _ .vmem, ⟨19, _⟩ => ⟨S1024x1024, .f32⟩
  | _, _ => ⟨S512x7x7x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨1, ![7], ![false]⟩

def k0_cond3 (i : grid0.Coords) : BitVec 1 :=
  let arg0 : BitVec 32 := BitVec.ofNat 32 (i 0).val
  let c6_i32_25 : BitVec 32 := 6#32
  let v81 : BitVec 1 := Scalar.cmpi .eq arg0 c6_i32_25
  let v82 : BitVec 32 := Scalar.extui v81
  let c0_i32_26 : BitVec 32 := 0#32
  let v83 : BitVec 1 := Scalar.cmpi .ne v82 c0_i32_26
  v83

@[reducible] def k0_t1_loop : Scf.Loop 32 :=
  let c0_i32_46 : BitVec 32 := 0#32
  let c2_i32 : BitVec 32 := 2#32
  let v123 : BitVec 32 := Scalar.addi c0_i32_46 c2_i32
  let c1_i32 : BitVec 32 := 1#32
  ⟨c0_i32_46, v123, c1_i32⟩
def k0_off1 (k0_t1 : Fin k0_t1_loop.trips) : Fin 2 → Nat :=
  let c0_i32_46 : BitVec 32 := 0#32
  let c1_i32 : BitVec 32 := 1#32
  let arg18 : BitVec 32 := Scf.iv c0_i32_46 c1_i32 k0_t1
  let c512_i32 : BitVec 32 := 512#32
  let v142 : BitVec 32 := Scalar.muli arg18 c512_i32
  let v143 : Index := Scalar.indexCast v142
  let c0_59 : Index := 0#32
  ![v143.toNat, 0]
@[reducible] def k0_t2_loop : Scf.Loop 32 :=
  let c0_i32_55 : BitVec 32 := 0#32
  let c2_i32_56 : BitVec 32 := 2#32
  let v141 : BitVec 32 := Scalar.addi c0_i32_55 c2_i32_56
  let c1_i32_57 : BitVec 32 := 1#32
  ⟨c0_i32_55, v141, c1_i32_57⟩
def k0_off2 (k0_t2 : Fin k0_t2_loop.trips) : Fin 2 → Nat :=
  let c0_i32_55 : BitVec 32 := 0#32
  let c1_i32_57 : BitVec 32 := 1#32
  let arg18 : BitVec 32 := Scf.iv c0_i32_55 c1_i32_57 k0_t2
  let c512_i32 : BitVec 32 := 512#32
  let v142 : BitVec 32 := Scalar.muli arg18 c512_i32
  let v143 : Index := Scalar.indexCast v142
  let c0_59 : Index := 0#32
  ![v143.toNat, 0]
def k0_off3 (k0_t2 : Fin k0_t2_loop.trips) : Fin 2 → Nat :=
  let c0_66 : Index := 0#32
  let c0_i32_55 : BitVec 32 := 0#32
  let c1_i32_57 : BitVec 32 := 1#32
  let arg18 : BitVec 32 := Scf.iv c0_i32_55 c1_i32_57 k0_t2
  let c512_i32 : BitVec 32 := 512#32
  let v142 : BitVec 32 := Scalar.muli arg18 c512_i32
  let v158 : Index := Scalar.indexCast v142
  ![0, v158.toNat]
def k0_off4 (k0_t2 : Fin k0_t2_loop.trips) : Fin 2 → Nat :=
  let c0_75 : Index := 0#32
  let c0_i32_55 : BitVec 32 := 0#32
  let c1_i32_57 : BitVec 32 := 1#32
  let arg18 : BitVec 32 := Scf.iv c0_i32_55 c1_i32_57 k0_t2
  let c512_i32 : BitVec 32 := 512#32
  let v142 : BitVec 32 := Scalar.muli arg18 c512_i32
  let v178 : Index := Scalar.indexCast v142
  ![0, v178.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x7x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x7x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1792x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S81x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S81x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S324x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S324x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S81x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S81x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S324x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S512x7x7x256 : Shape := ⟨4, ![512, 7, 7, 256]⟩
abbrev S12544x1024 : Shape := ⟨2, ![12544, 1024]⟩
abbrev S1024 : Shape := ⟨1, ![1024]⟩
abbrev S1024x1024 : Shape := ⟨2, ![1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S1024x7x7x256 : Shape := ⟨4, ![1024, 7, 7, 256]⟩
abbrev S1024x12544 : Shape := ⟨2, ![1024, 12544]⟩
abbrev S1x1024 : Shape := ⟨2, ![1, 1024]⟩
abbrev S_ : Shape := ⟨0, ![]⟩
abbrev S1x81 : Shape := ⟨2, ![1, 81]⟩
abbrev S1024x1 : Shape := ⟨2, ![1024, 1]⟩
abbrev S1x324 : Shape := ⟨2, ![1, 324]⟩
abbrev S1024x81x4 : Shape := ⟨3, ![1024, 81, 4]⟩

abbrev nBuf : Space → Nat
  | .hbm => 141
  | .vmem => 0
  | .smem => 0
  | _ => 0

abbrev hbmTy0_0 (i : Nat) : BufTy := match i % 128 with
  | 0 => ⟨S512x7x7x256, .f32⟩
  | 1 => ⟨S512x7x7x256, .f32⟩
  | 2 => ⟨S12544x1024, .f32⟩
  | 3 => ⟨S1024, .f32⟩
  | 4 => ⟨S1024, .f32⟩
  | 5 => ⟨S1024, .f32⟩
  | 6 => ⟨S1024x1024, .f32⟩
  | 7 => ⟨S1024, .f32⟩
  | 8 => ⟨S1024, .f32⟩
  | 9 => ⟨S1024, .f32⟩
  | 10 => ⟨S1024x81, .f32⟩
  | 11 => ⟨S81, .f32⟩
  | 12 => ⟨S1024x324, .f32⟩
  | 13 => ⟨S324, .f32⟩
  | 14 => ⟨S1024x7x7x256, .f32⟩
  | 15 => ⟨S1024x12544, .f32⟩
  | 16 => ⟨S1024x1024, .f32⟩
  | 17 => ⟨S1x1024, .f32⟩
  | 18 => ⟨S1024x1024, .f32⟩
  | 19 => ⟨S1024x1024, .f32⟩
  | 20 => ⟨S_, .f32⟩
  | 21 => ⟨S1024, .f32⟩
  | 22 => ⟨S_, .f32⟩
  | 23 => ⟨S1024, .f32⟩
  | 24 => ⟨S1024, .f32⟩
  | 25 => ⟨S_, .i32⟩
  | 26 => ⟨S_, .f32⟩
  | 27 => ⟨S1024, .f32⟩
  | 28 => ⟨S1x1024, .f32⟩
  | 29 => ⟨S_, .f32⟩
  | 30 => ⟨S1x1024, .f32⟩
  | 31 => ⟨S1x1024, .f32⟩
  | 32 => ⟨S1024x1024, .f32⟩
  | 33 => ⟨S1024x1024, .f32⟩
  | 34 => ⟨S1024x1024, .f32⟩
  | 35 => ⟨S_, .f32⟩
  | 36 => ⟨S_, .f32⟩
  | 37 => ⟨S_, .f32⟩
  | 38 => ⟨S_, .f32⟩
  | 39 => ⟨S1024, .f32⟩
  | 40 => ⟨S1024, .f32⟩
  | 41 => ⟨S1024, .f32⟩
  | 42 => ⟨S_, .f32⟩
  | 43 => ⟨S_, .i1⟩
  | 44 => ⟨S_, .f32⟩
  | 45 => ⟨S_, .f32⟩
  | 46 => ⟨S1024, .f32⟩
  | 47 => ⟨S1024, .f32⟩
  | 48 => ⟨S1x1024, .f32⟩
  | 49 => ⟨S1024x1024, .f32⟩
  | 50 => ⟨S1024x1024, .f32⟩
  | 51 => ⟨S1x1024, .f32⟩
  | 52 => ⟨S1024x1024, .f32⟩
  | 53 => ⟨S1024x1024, .f32⟩
  | 54 => ⟨S_, .f32⟩
  | 55 => ⟨S1024, .f32⟩
  | 56 => ⟨S1024, .f32⟩
  | 57 => ⟨S1024, .f32⟩
  | 58 => ⟨S1x1024, .f32⟩
  | 59 => ⟨S1024x1024, .f32⟩
  | 60 => ⟨S1024x1024, .f32⟩
  | 61 => ⟨S1x1024, .f32⟩
  | 62 => ⟨S1024x1024, .f32⟩
  | 63 => ⟨S1024x1024, .f32⟩
  | 64 => ⟨S_, .f32⟩
  | 65 => ⟨S1024x1024, .f32⟩
  | 66 => ⟨S1024x1024, .f32⟩
  | 67 => ⟨S1024x1024, .f32⟩
  | 68 => ⟨S1x1024, .f32⟩
  | 69 => ⟨S1024x1024, .f32⟩
  | 70 => ⟨S1024x1024, .f32⟩
  | 71 => ⟨S_, .f32⟩
  | 72 => ⟨S1024, .f32⟩
  | 73 => ⟨S_, .f32⟩
  | 74 => ⟨S1024, .f32⟩
  | 75 => ⟨S1024, .f32⟩
  | 76 => ⟨S_, .i32⟩
  | 77 => ⟨S_, .f32⟩
  | 78 => ⟨S1024, .f32⟩
  | 79 => ⟨S1x1024, .f32⟩
  | 80 => ⟨S_, .f32⟩
  | 81 => ⟨S1x1024, .f32⟩
  | 82 => ⟨S1x1024, .f32⟩
  | 83 => ⟨S1024x1024, .f32⟩
  | 84 => ⟨S1024x1024, .f32⟩
  | 85 => ⟨S1024x1024, .f32⟩
  | 86 => ⟨S_, .f32⟩
  | 87 => ⟨S_, .f32⟩
  | 88 => ⟨S_, .f32⟩
  | 89 => ⟨S_, .f32⟩
  | 90 => ⟨S1024, .f32⟩
  | 91 => ⟨S1024, .f32⟩
  | 92 => ⟨S1024, .f32⟩
  | 93 => ⟨S_, .f32⟩
  | 94 => ⟨S_, .i1⟩
  | 95 => ⟨S_, .f32⟩
  | 96 => ⟨S_, .f32⟩
  | 97 => ⟨S1024, .f32⟩
  | 98 => ⟨S1024, .f32⟩
  | 99 => ⟨S1x1024, .f32⟩
  | 100 => ⟨S1024x1024, .f32⟩
  | 101 => ⟨S1024x1024, .f32⟩
  | 102 => ⟨S1x1024, .f32⟩
  | 103 => ⟨S1024x1024, .f32⟩
  | 104 => ⟨S1024x1024, .f32⟩
  | 105 => ⟨S_, .f32⟩
  | 106 => ⟨S1024, .f32⟩
  | 107 => ⟨S1024, .f32⟩
  | 108 => ⟨S1024, .f32⟩
  | 109 => ⟨S1x1024, .f32⟩
  | 110 => ⟨S1024x1024, .f32⟩
  | 111 => ⟨S1024x1024, .f32⟩
  | 112 => ⟨S1x1024, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S1024x81, .f32⟩
  | 119 => ⟨S1x81, .f32⟩
  | 120 => ⟨S1024x81, .f32⟩
  | 121 => ⟨S1024x81, .f32⟩
  | 122 => ⟨S_, .f32⟩
  | 123 => ⟨S1024, .f32⟩
  | 124 => ⟨S_, .f32⟩
  | 125 => ⟨S1024, .f32⟩
  | 126 => ⟨S1024, .f32⟩
  | 127 => ⟨S1024x1, .f32⟩
  | _ => ⟨S512x7x7x256, .f32⟩

abbrev hbmTy0_1 (i : Nat) : BufTy := match i % 128 with
  | 0 => ⟨S1024x81, .f32⟩
  | 1 => ⟨S1024x81, .f32⟩
  | 2 => ⟨S1024x81, .f32⟩
  | 3 => ⟨S_, .f32⟩
  | 4 => ⟨S1024, .f32⟩
  | 5 => ⟨S1024x1, .f32⟩
  | 6 => ⟨S1024x81, .f32⟩
  | 7 => ⟨S1024x81, .f32⟩
  | 8 => ⟨S1024x324, .f32⟩
  | 9 => ⟨S1x324, .f32⟩
  | 10 => ⟨S1024x324, .f32⟩
  | 11 => ⟨S1024x324, .f32⟩
  | 12 => ⟨S1024x81x4, .f32⟩
  | _ => ⟨S512x7x7x256, .f32⟩

abbrev hbmTy (i : Nat) : BufTy := match i / 128 with
  | 0 => hbmTy0_0 i
  | 1 => hbmTy0_1 i
  | _ => ⟨S512x7x7x256, .f32⟩

abbrev bufTy : (tb : Table) → Fin (tcTables nBuf tb) → BufTy
  | .hbm, ⟨i, _⟩ => hbmTy i
  | _, _ => ⟨S512x7x7x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_1 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_call1_cst : Ref sig .tc := ⟨.hbm, 64, rfl⟩
abbrev main_call1_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_2 : Ref sig .tc := ⟨.hbm, 71, rfl⟩
abbrev main_v30 : Ref sig .tc := ⟨.hbm, 72, rfl⟩
abbrev main_cst_3 : Ref sig .tc := ⟨.hbm, 73, rfl⟩
abbrev main_v31 : Ref sig .tc := ⟨.hbm, 74, rfl⟩
abbrev main_v32 : Ref sig .tc := ⟨.hbm, 75, rfl⟩
abbrev main_c_4 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_cst_3 : Ref sig .tc := ⟨.hbm, 93, rfl⟩
abbrev main_call2_v12 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_cst_5 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_call3_cst : Ref sig .tc := ⟨.hbm, 115, rfl⟩
abbrev main_call3_v0 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_cst_6 : Ref sig .tc := ⟨.hbm, 122, rfl⟩
abbrev main_v54 : Ref sig .tc := ⟨.hbm, 123, rfl⟩
abbrev main_cst_7 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_8 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩

abbrev nD : Nat := 1
abbrev τ : Topo := Topo.v7x

variable {F : FTy → Type} [FloatOps F]
-- ==== Proof.IBase.lean ====
/- The three cases of the grid, the points where the outputs are left alone, and the buffers a point works on. -/
module

public import proofs.«01_k».proof.Proof.Gen.KernelIdeal.Frame
public import proofs.«01_k».proof.Proof.Gen.KernelIdeal.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which of the three cases a point is in -/

/-- The first conditional of the body: the point is the first of the reduction. -/
abbrev isFirst (i : grid0.Coords) : Prop :=
  (Scalar.cmpi .ne (Scalar.extui (Scalar.cmpi .eq (BitVec.ofNat 32 (i 0).val) 0#32)) 0#32) = 1#1
/-- The second conditional: the point is strictly between the first and the last. -/
abbrev isMiddle (i : grid0.Coords) : Prop :=
  (Scalar.cmpi .ne (Scalar.extui (Scalar.andi (Scalar.cmpi .sgt (BitVec.ofNat 32 (i 0).val) 0#32)
    (Scalar.cmpi .slt (BitVec.ofNat 32 (i 0).val) 6#32))) 0#32) = 1#1
/-- The third conditional: the point is the last of the reduction. -/
abbrev isLast (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isMiddle_iff : ∀ t : Fin cfg0.N, isMiddle (grid0.coords t) ↔ (1 ≤ t.val ∧ t.val ≤ 5) :=
  (by decide +kernel : ∀ t : Fin grid0.N, isMiddle (grid0.coords t) ↔ (1 ≤ t.val ∧ t.val ≤ 5))
theorem isLast_iff : ∀ t : Fin cfg0.N, isLast (grid0.coords t) ↔ t.val = 6 :=
  (by decide +kernel : ∀ t : Fin grid0.N, isLast (grid0.coords t) ↔ t.val = 6)

theorem pt_lt (t : Fin cfg0.N) : t.val < 7 := lt_of_lt_of_eq t.isLt N_0

/-- Before the last point the three outputs are left alone by the body. -/
theorem idle12 : ∀ t : Fin cfg0.N, t.val ≠ 6 → cfg0.idle 12 (grid0.coords t) = true := by decide +kernel
theorem idle13 : ∀ t : Fin cfg0.N, t.val ≠ 6 → cfg0.idle 13 (grid0.coords t) = true := by decide +kernel
theorem idle14 : ∀ t : Fin cfg0.N, t.val ≠ 6 → cfg0.idle 14 (grid0.coords t) = true := by decide +kernel
/-- … and are not written back there. -/
theorem keep12 : ∀ t : Fin cfg0.N, t.val ≠ 6 → (cfg0.win 12).flush t = false := by decide +kernel
theorem keep13 : ∀ t : Fin cfg0.N, t.val ≠ 6 → (cfg0.win 13).flush t = false := by decide +kernel
theorem keep14 : ∀ t : Fin cfg0.N, t.val ≠ 6 → (cfg0.win 14).flush t = false := by decide +kernel
/-- The last point stores all three. -/
theorem live12 : ∀ t : Fin cfg0.N, t.val = 6 → cfg0.idle 12 (grid0.coords t) = false := by decide +kernel
theorem live13 : ∀ t : Fin cfg0.N, t.val = 6 → cfg0.idle 13 (grid0.coords t) = false := by decide +kernel
theorem live14 : ∀ t : Fin cfg0.N, t.val = 6 → cfg0.idle 14 (grid0.coords t) = false := by decide +kernel

/-! ## The buffers a point works on -/

/-- The staging buffer of window 0 at point `t`, and that it is a whole buffer. -/
abbrev st0 (t : Fin cfg0.N) : Memref sig .tc .vmem S1x7x512x256 .f32 := win0_0.stage (cfg0.slots t 0)
abbrev sw0 (t : Fin cfg0.N) : (st0 t).IsWhole := hstage0_0 ((cfg0.slots t 0).cast nbuf0_0)
/-- The staging buffer of window 1 at point `t`, and that it is a whole buffer. -/
abbrev st1 (t : Fin cfg0.N) : Memref sig .tc .vmem S1x7x512x256 .f32 := win0_1.stage (cfg0.slots t 1)
abbrev sw1 (t : Fin cfg0.N) : (st1 t).IsWhole := hstage0_1 ((cfg0.slots t 1).cast nbuf0_1)
/-- The staging buffer of window 2 at point `t`, and that it is a whole buffer. -/
abbrev st2 (t : Fin cfg0.N) : Memref sig .tc .vmem S1792x1024 .f32 := win0_2.stage (cfg0.slots t 2)
abbrev sw2 (t : Fin cfg0.N) : (st2 t).IsWhole := hstage0_2 ((cfg0.slots t 2).cast nbuf0_2)
/-- The staging buffer of window 3 at point `t`, and that it is a whole buffer. -/
abbrev st3 (t : Fin cfg0.N) : Memref sig .tc .vmem S1x1024 .f32 := win0_3.stage (cfg0.slots t 3)
abbrev sw3 (t : Fin cfg0.N) : (st3 t).IsWhole := hstage0_3 ((cfg0.slots t 3).cast nbuf0_3)
/-- The staging buffer of window 4 at point `t`, and that it is a whole buffer. -/
abbrev st4 (t : Fin cfg0.N) : Memref sig .tc .vmem S1x1024 .f32 := win0_4.stage (cfg0.slots t 4)
abbrev sw4 (t : Fin cfg0.N) : (st4 t).IsWhole := hstage0_4 ((cfg0.slots t 4).cast nbuf0_4)
/-- The staging buffer of window 5 at point `t`, and that it is a whole buffer. -/
abbrev st5 (t : Fin cfg0.N) : Memref sig .tc .vmem S1024x1024 .f32 := win0_5.stage (cfg0.slots t 5)
abbrev sw5 (t : Fin cfg0.N) : (st5 t).IsWhole := hstage0_5 ((cfg0.slots t 5).cast nbuf0_5)
/-- The staging buffer of window 6 at point `t`, and that it is a whole buffer. -/
abbrev st6 (t : Fin cfg0.N) : Memref sig .tc .vmem S1x1024 .f32 := win0_6.stage (cfg0.slots t 6)
abbrev sw6 (t : Fin cfg0.N) : (st6 t).IsWhole := hstage0_6 ((cfg0.slots t 6).cast nbuf0_6)
/-- The staging buffer of window 7 at point `t`, and that it is a whole buffer. -/
abbrev st7 (t : Fin cfg0.N) : Memref sig .tc .vmem S1x1024 .f32 := win0_7.stage (cfg0.slots t 7)
abbrev sw7 (t : Fin cfg0.N) : (st7 t).IsWhole := hstage0_7 ((cfg0.slots t 7).cast nbuf0_7)
/-- The staging buffer of window 8 at point `t`, and that it is a whole buffer. -/
abbrev st8 (t : Fin cfg0.N) : Memref sig .tc .vmem S81x1024 .f32 := win0_8.stage (cfg0.slots t 8)
abbrev sw8 (t : Fin cfg0.N) : (st8 t).IsWhole := hstage0_8 ((cfg0.slots t 8).cast nbuf0_8)
/-- The staging buffer of window 9 at point `t`, and that it is a whole buffer. -/
abbrev st9 (t : Fin cfg0.N) : Memref sig .tc .vmem S81x1 .f32 := win0_9.stage (cfg0.slots t 9)
abbrev sw9 (t : Fin cfg0.N) : (st9 t).IsWhole := hstage0_9 ((cfg0.slots t 9).cast nbuf0_9)
/-- The staging buffer of window 10 at point `t`, and that it is a whole buffer. -/
abbrev st10 (t : Fin cfg0.N) : Memref sig .tc .vmem S324x1024 .f32 := win0_10.stage (cfg0.slots t 10)
abbrev sw10 (t : Fin cfg0.N) : (st10 t).IsWhole := hstage0_10 ((cfg0.slots t 10).cast nbuf0_10)
/-- The staging buffer of window 11 at point `t`, and that it is a whole buffer. -/
abbrev st11 (t : Fin cfg0.N) : Memref sig .tc .vmem S324x1 .f32 := win0_11.stage (cfg0.slots t 11)
abbrev sw11 (t : Fin cfg0.N) : (st11 t).IsWhole := hstage0_11 ((cfg0.slots t 11).cast nbuf0_11)
/-- The staging buffer of window 12 at point `t`, and that it is a whole buffer. -/
abbrev st12 (t : Fin cfg0.N) : Memref sig .tc .vmem S81x1024 .f32 := win0_12.stage (cfg0.slots t 12)
abbrev sw12 (t : Fin cfg0.N) : (st12 t).IsWhole := hstage0_12 ((cfg0.slots t 12).cast nbuf0_12)
/-- The staging buffer of window 13 at point `t`, and that it is a whole buffer. -/
abbrev st13 (t : Fin cfg0.N) : Memref sig .tc .vmem S81x1024 .f32 := win0_13.stage (cfg0.slots t 13)
abbrev sw13 (t : Fin cfg0.N) : (st13 t).IsWhole := hstage0_13 ((cfg0.slots t 13).cast nbuf0_13)
/-- The staging buffer of window 14 at point `t`, and that it is a whole buffer. -/
abbrev st14 (t : Fin cfg0.N) : Memref sig .tc .vmem S324x1024 .f32 := win0_14.stage (cfg0.slots t 14)
abbrev sw14 (t : Fin cfg0.N) : (st14 t).IsWhole := hstage0_14 ((cfg0.slots t 14).cast nbuf0_14)
/-- The first layer's accumulator, -/
abbrev accM : Memref sig .tc .vmem S1024x1024 .f32 := Memref.whole cc0_scratch0
/-- and the second layer's matrix. -/
abbrev hidM : Memref sig .tc .vmem S1024x1024 .f32 := Memref.whole cc0_scratch1

/-- What the launch hands the body between points, with the two scratch buffers as memrefs. -/
theorem scratch_eq (c : Dev nD) :
    (Pipeline.ΦA spec0 c : sProp 𝕄)
      = iprop(iprop((∃ d, owns (c : Thread nD τ) accM fullShare d) ∗ (∃ d, owns (c : Thread nD τ) hidM fullShare d)) ∗ (∃ r, prngReg c r)) := by
  unfold Pipeline.ΦA; rw [scopedRest0_eq]; simp only [accM, hidM, owns_whole]; try rfl

end Cert.KernelIdeal.Hand

end
-- ==== Proof.IVals.lean ====
/- What the body stores, as functions of what it reads. -/
module

public import proofs.«01_k».proof.Proof.IBase
public import Idealize.ShloMosaic.Lib.VecWindow
public import Idealize.ShloMosaic.Lib.WritesUnit
public import Idealize.ShloMosaic.Lib.WholeRead
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem ix0_lt (y : S1024x1024.Idx) : (y 0).val < 1024 := (y 0).isLt
theorem ix0_lt' (y : S512x1024.Idx) : (y 0).val < 512 := (y 0).isLt
theorem ix1_lt {n : Nat} (y : (⟨2, ![n, 1024]⟩ : Shape).Idx) : (y 1).val < 1024 := (y 1).isLt

/-! ## Halves of a buffer -/

/-- A matrix of 1024 rows put together from its upper and its lower half. -/
def stack (T B : Vec F S512x1024 .f32) : Vec F S1024x1024 .f32 := fun y =>
  if h : (y 0).val < 512 then T (ix2 ⟨(y 0).val, h⟩ (y 1))
  else B (ix2 ⟨(y 0).val - 512, by have := ix0_lt y; omega⟩ (y 1))

/-- Half `k` of the rows of a matrix of 1024 rows. -/
def half (X : Vec F S1024x1024 .f32) (k : Fin 2) : Vec F S512x1024 .f32 := fun x =>
  X (ix2 ⟨512 * k.val + (x 0).val, by have := ix0_lt' x; have := k.isLt; omega⟩ (x 1))

/-- A matrix of 1024 columns put together from its left and its right half. -/
def beside {n : Nat} (L R : (⟨2, ![n, 512]⟩ : Shape).Idx → Elt F .f32) : (⟨2, ![n, 1024]⟩ : Shape).Idx → Elt F .f32 := fun y =>
  if h : (y 1).val < 512 then L (ix2 (y 0) ⟨(y 1).val, h⟩)
  else R (ix2 (y 0) ⟨(y 1).val - 512, by have := ix1_lt y; omega⟩)

/-! ## Reading a buffer that was stored in two halves -/

section Reads
variable {κ : Kind} {sp : Space}

/-- Two stores of half the rows each leave the stack of the two payloads. -/
theorem read_stack (v : View sig κ sp S1024x1024 .f32) (f : v.ty.Contents (Elt F)) {o1 o0 : Fin 2 → ℕ}
    (h1 : ∀ a, o1 a + S512x1024.size a ≤ S1024x1024.size a) (h0 : ∀ a, o0 a + S512x1024.size a ≤ S1024x1024.size a)
    (e1 : o1 = ![512, 0]) (e0 : o0 = ![0, 0]) (B T : Vec F S512x1024 .f32) (L : List (View.Piece (Elt F) S1024x1024 .f32)) :
    v.read (Elt F) (v.writes (Elt F) f (⟨Rect.unit (s := S1024x1024) o1 S512x1024.size h1, B⟩ :: ⟨Rect.unit (s := S1024x1024) o0 S512x1024.size h0, T⟩ :: L))
      = stack T B := by
  funext y
  unfold stack
  have hy := ix0_lt y
  by_cases h : (y 0).val < 512
  · rw [dif_pos h, View.read_writes_cons_rows_of_not_mem (W := 512) v f h1 B _ y e1 rfl (Or.inl h)]
    exact View.read_writes_cons_rows_of_mem v f h0 T L y (ix2 ⟨(y 0).val, h⟩ (y 1)) e0 (Nat.zero_add _).symm rfl
  · rw [dif_neg h]
    exact View.read_writes_cons_rows_of_mem v f h1 B _ y (ix2 ⟨(y 0).val - 512, by omega⟩ (y 1)) e1
      (show (y 0).val = 512 + ((y 0).val - 512) by omega) rfl

/-- Two stores of half the columns each leave the two payloads side by side. -/
theorem read_beside {n : Nat} (v : View sig κ sp (⟨2, ![n, 1024]⟩ : Shape) .f32) (f : v.ty.Contents (Elt F)) {o1 o0 : Fin 2 → ℕ}
    (h1 : ∀ a, o1 a + (![n, 512] : Fin 2 → ℕ) a ≤ (![n, 1024] : Fin 2 → ℕ) a) (h0 : ∀ a, o0 a + (![n, 512] : Fin 2 → ℕ) a ≤ (![n, 1024] : Fin 2 → ℕ) a)
    (e1 : o1 = ![0, 512]) (e0 : o0 = ![0, 0]) (R L : (⟨2, ![n, 512]⟩ : Shape).Idx → Elt F .f32) (Ls : List (View.Piece (Elt F) (⟨2, ![n, 1024]⟩ : Shape) .f32)) :
    v.read (Elt F) (v.writes (Elt F) f (⟨Rect.unit (s := ⟨2, ![n, 1024]⟩) o1 ![n, 512] h1, R⟩ :: ⟨Rect.unit (s := ⟨2, ![n, 1024]⟩) o0 ![n, 512] h0, L⟩ :: Ls))
      = beside L R := by
  funext y
  unfold beside
  have hy := ix1_lt y
  by_cases h : (y 1).val < 512
  · rw [dif_pos h, View.read_writes_cons_unit_of_not_mem v f h1 R _ y e1 (1 : Fin 2) (Or.inl h)]
    exact View.read_writes_cons_unit_of_mem v f h0 L Ls y (ix2 (y 0) ⟨(y 1).val, h⟩) e0
      (Fin.forall_fin_two.mpr ⟨(Nat.zero_add _).symm, (Nat.zero_add _).symm⟩)
  · rw [dif_neg h]
    exact View.read_writes_cons_unit_of_mem v f h1 R _ y (ix2 (y 0) ⟨(y 1).val - 512, by omega⟩) e1
      (Fin.forall_fin_two.mpr ⟨(Nat.zero_add _).symm, (show (y 1).val = 512 + ((y 1).val - 512) by omega)⟩)

/-- A load of half the rows of a buffer that reads `X`. -/
theorem readAt_half (v : View sig κ sp S1024x1024 .f32) (f : v.ty.Contents (Elt F)) {o : Fin 2 → ℕ}
    (h : ∀ a, o a + S512x1024.size a ≤ S1024x1024.size a) (k : Fin 2) (e : o = ![512 * k.val, 0]) :
    v.readAt (Elt F) (Rect.unit (s := S1024x1024) o S512x1024.size h).toLoadRect f = half (v.read (Elt F) f) k := by
  subst e
  funext x
  unfold half
  refine congrArg (v.read (Elt F) f) (funext fun a => Fin.ext ?_)
  match a with
  | (0 : Fin 2) => show 512 * k.val + 1 * (x 0).val = 512 * k.val + (x 0).val; omega
  | (1 : Fin 2) => show 0 + 1 * (x 1).val = (x 1).val; omega

/-- A load of the whole of a buffer that reads `X`. -/
theorem readAt_all {s : Shape} (m : Memref sig κ sp s .f32) (hm : m.IsWhole) (X : s.Idx → Elt F .f32) {o : Fin s.rank → ℕ}
    (h : ∀ a, o a + s.size a ≤ s.size a) :
    m.view.readAt (Elt F) (Rect.unit (s := s) o s.size h).toLoadRect (hm.unread X) = X :=
  (View.readAt_full m.view _ h).trans (hm.read_unread X)

/-- The two halves, as the body spells their offsets. -/
theorem readAt_upper (m : Memref sig κ sp S1024x1024 .f32) (hm : m.IsWhole) (X : Vec F S1024x1024 .f32)
    (h : ∀ a, (![0, 0] : Fin 2 → ℕ) a + S512x1024.size a ≤ S1024x1024.size a) :
    m.view.readAt (Elt F) (Rect.unit (s := S1024x1024) ![0, 0] S512x1024.size h).toLoadRect (hm.unread X) = half X 0 := by
  rw [readAt_half m.view _ h 0 rfl, hm.read_unread]
theorem readAt_lower (m : Memref sig κ sp S1024x1024 .f32) (hm : m.IsWhole) (X : Vec F S1024x1024 .f32)
    (h : ∀ a, (![512, 0] : Fin 2 → ℕ) a + S512x1024.size a ≤ S1024x1024.size a) :
    m.view.readAt (Elt F) (Rect.unit (s := S1024x1024) ![512, 0] S512x1024.size h).toLoadRect (hm.unread X) = half X 1 := by
  rw [readAt_half m.view _ h 1 rfl, hm.read_unread]

end Reads

/-! ## What the body stores -/

/-- The accumulator after the first point. -/
def accFirst (A B : Vec F S1x7x512x256 .f32) (W : Vec F S1792x1024 .f32) : Vec F S1024x1024 .f32 :=
  stack (k0_pay19 (k0_pay14 W A)) (k0_pay20 W (k0_pay15 B) (k0_pay16 B) (k0_pay17 W))

/-- The accumulator after a middle point. -/
def accMiddle (A B : Vec F S1x7x512x256 .f32) (W : Vec F S1792x1024 .f32) (X : Vec F S1024x1024 .f32) : Vec F S1024x1024 .f32 :=
  stack (k0_pay21 (k0_pay14 W A) (half X 0)) (k0_pay22 W (k0_pay15 B) (k0_pay16 B) (k0_pay17 W) (half X 1))

/-- The accumulator after the last point. -/
def accLast (A B : Vec F S1x7x512x256 .f32) (W : Vec F S1792x1024 .f32) (X : Vec F S1024x1024 .f32) : Vec F S1024x1024 .f32 :=
  stack (k0_pay8 (k0_pay14 W A) (half X 0)) (k0_pay9 (k0_pay18 W (k0_pay15 B) (k0_pay16 B) (k0_pay17 W)) (half X 1))

/-- The second layer's matrix: what the first loop stores of accumulator `X`, with scale `sc`, shift parts `be`, `ms`. -/
def hidden (sc be ms : FVec F S1x1024 .f32) (X W : Vec F S1024x1024 .f32) : Vec F S1024x1024 .f32 :=
  stack (k0_pay24 sc be ms (half X 0) W) (k0_pay24 sc be ms (half X 1) W)

/-- The column sums the first loop carries out, -/
def sums (sc be ms : FVec F S1x1024 .f32) (z : FVec F S1x1024 .f32) (X W : Vec F S1024x1024 .f32) : FVec F S1x1024 .f32 :=
  k0_pay25 sc be ms (k0_pay25 sc be ms z (half X 0) W) (half X 1) W
/-- and the column sums of squares. -/
def squares (sc be ms : FVec F S1x1024 .f32) (z : FVec F S1x1024 .f32) (X W : Vec F S1024x1024 .f32) : FVec F S1x1024 .f32 :=
  k0_pay26 sc be ms (k0_pay26 sc be ms z (half X 0) W) (half X 1) W

/-- The logits, transposed, of the second layer's matrix `H`. -/
def outLogits (sc sh : FVec F S1x1024 .f32) (H : Vec F S1024x1024 .f32) (W : Vec F S81x1024 .f32) (b : Vec F S81x1 .f32) : Vec F S81x1024 .f32 :=
  beside (k0_pay2 sc sh (half H 0) W b) (k0_pay2 sc sh (half H 1) W b)
/-- The class probabilities, transposed. -/
def outProbs (sc sh : FVec F S1x1024 .f32) (H : Vec F S1024x1024 .f32) (W : Vec F S81x1024 .f32) (b : Vec F S81x1 .f32) : Vec F S81x1024 .f32 :=
  beside (k0_pay3 sc sh (half H 0) W b) (k0_pay3 sc sh (half H 1) W b)
/-- The box deltas, transposed. -/
def outDeltas (sc sh : FVec F S1x1024 .f32) (H : Vec F S1024x1024 .f32) (W : Vec F S324x1024 .f32) (b : Vec F S324x1 .f32) : Vec F S324x1024 .f32 :=
  beside (k0_pay4 sc sh (half H 0) W b) (k0_pay4 sc sh (half H 1) W b)

end Cert.KernelIdeal.Hand

end
-- ==== Proof.IFirst.lean ====
/- What the body does at the first point of the grid. -/
module

public import proofs.«01_k».proof.Proof.IVals

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The first point stores the products of its two row blocks into the accumulator; everything else is left as it was. -/
theorem firstRun (c : Dev nD) (i : grid0.Coords)
  (arg1 : Memref sig .tc .vmem S1x7x512x256 .f32) (harg1 : arg1.IsWhole)
  (arg2 : Memref sig .tc .vmem S1x7x512x256 .f32) (harg2 : arg2.IsWhole)
  (arg3 : Memref sig .tc .vmem S1792x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S81x1024 .f32) (harg9 : arg9.IsWhole)
  (arg10 : Memref sig .tc .vmem S81x1 .f32) (harg10 : arg10.IsWhole)
  (arg11 : Memref sig .tc .vmem S324x1024 .f32) (harg11 : arg11.IsWhole)
  (arg12 : Memref sig .tc .vmem S324x1 .f32) (harg12 : arg12.IsWhole)
  (arg13 : Memref sig .tc .vmem S81x1024 .f32) (harg13 : arg13.IsWhole)
  (arg14 : Memref sig .tc .vmem S81x1024 .f32) (harg14 : arg14.IsWhole)
  (arg15 : Memref sig .tc .vmem S324x1024 .f32) (harg15 : arg15.IsWhole)
  (arg16 : Memref sig .tc .vmem S1024x1024 .f32) (harg16 : arg16.IsWhole)
  (arg17 : Memref sig .tc .vmem S1024x1024 .f32) (harg17 : arg17.IsWhole)
  (h0 : isFirst i) (h1 : ¬isMiddle i) (h2 : ¬isLast i)
  (x0 : Vec F S1x7x512x256 .f32) (x1 : Vec F S1x7x512x256 .f32) (x2 : Vec F S1792x1024 .f32) (x3 : Vec F S1x1024 .f32) (x4 : Vec F S1x1024 .f32) (x5 : Vec F S1024x1024 .f32) (x6 : Vec F S1x1024 .f32) (x7 : Vec F S1x1024 .f32) (x8 : Vec F S81x1024 .f32) (x9 : Vec F S81x1 .f32) (x10 : Vec F S324x1024 .f32) (x11 : Vec F S324x1 .f32)
  (y12 : Vec F S81x1024 .f32) (y13 : Vec F S81x1024 .f32) (y14 : Vec F S324x1024 .f32) (E : Set ℕ) (K : PUnit → sProp 𝕄) :
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ owns (c : Thread nD τ) arg15 fullShare y14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ owns (c : Thread nD τ) arg15 fullShare y14 ∗ owns (c : Thread nD τ) arg16 fullShare (accFirst x0 x1 x2) ∗ (∃ d, owns (c : Thread nD τ) arg17 fullShare d)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__head_kernel_eq_skeleton]; unfold cc0__head_kernel_skel
  simp only [k0_part4_eq_skeleton]; unfold k0_part4_skel
  simp only [k0_part3_eq_skeleton, k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%da, %fa, -, HA⟩, ⟨%dh, %fh, -, HH⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  obtain rfl := harg15.eq_unread hf14
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [HA]
  · iexists _; isplitr; swap; · iexact HA
    ipureintro
    refine (read_stack _ _ _ _ rfl rfl _ _ []).trans ?_
    unfold accFirst firstRun.sl.r firstRun.sl.r_1 firstRun.sl.r_2 firstRun.sl.r_3 firstRun.sl.r_4
    rw [readAt_all arg1 harg1 x0, readAt_all arg2 harg2 x1, readAt_all arg3 harg3 x2]
  iexists _, _; isplitr; swap; · iexact HH
  ipureintro; rfl

end Cert.KernelIdeal.Hand

end
-- ==== Proof.IMiddle.lean ====
/- What the body does at a middle point of the grid. -/
module

public import proofs.«01_k».proof.Proof.IVals

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A middle point adds the products of its two row blocks to the accumulator; everything else is left as it was. -/
theorem middleRun (c : Dev nD) (i : grid0.Coords)
  (arg1 : Memref sig .tc .vmem S1x7x512x256 .f32) (harg1 : arg1.IsWhole)
  (arg2 : Memref sig .tc .vmem S1x7x512x256 .f32) (harg2 : arg2.IsWhole)
  (arg3 : Memref sig .tc .vmem S1792x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S81x1024 .f32) (harg9 : arg9.IsWhole)
  (arg10 : Memref sig .tc .vmem S81x1 .f32) (harg10 : arg10.IsWhole)
  (arg11 : Memref sig .tc .vmem S324x1024 .f32) (harg11 : arg11.IsWhole)
  (arg12 : Memref sig .tc .vmem S324x1 .f32) (harg12 : arg12.IsWhole)
  (arg13 : Memref sig .tc .vmem S81x1024 .f32) (harg13 : arg13.IsWhole)
  (arg14 : Memref sig .tc .vmem S81x1024 .f32) (harg14 : arg14.IsWhole)
  (arg15 : Memref sig .tc .vmem S324x1024 .f32) (harg15 : arg15.IsWhole)
  (arg16 : Memref sig .tc .vmem S1024x1024 .f32) (harg16 : arg16.IsWhole)
  (arg17 : Memref sig .tc .vmem S1024x1024 .f32) (harg17 : arg17.IsWhole)
  (h0 : ¬isFirst i) (h1 : isMiddle i) (h2 : ¬isLast i)
  (x0 : Vec F S1x7x512x256 .f32) (x1 : Vec F S1x7x512x256 .f32) (x2 : Vec F S1792x1024 .f32) (x3 : Vec F S1x1024 .f32) (x4 : Vec F S1x1024 .f32) (x5 : Vec F S1024x1024 .f32) (x6 : Vec F S1x1024 .f32) (x7 : Vec F S1x1024 .f32) (x8 : Vec F S81x1024 .f32) (x9 : Vec F S81x1 .f32) (x10 : Vec F S324x1024 .f32) (x11 : Vec F S324x1 .f32) (xa : Vec F S1024x1024 .f32)
  (y12 : Vec F S81x1024 .f32) (y13 : Vec F S81x1024 .f32) (y14 : Vec F S324x1024 .f32) (E : Set ℕ) (K : PUnit → sProp 𝕄) :
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ owns (c : Thread nD τ) arg15 fullShare y14 ∗ owns (c : Thread nD τ) arg16 fullShare xa ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ owns (c : Thread nD τ) arg15 fullShare y14 ∗ owns (c : Thread nD τ) arg16 fullShare (accMiddle x0 x1 x2 xa) ∗ (∃ d, owns (c : Thread nD τ) arg17 fullShare d)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__head_kernel_eq_skeleton]; unfold cc0__head_kernel_skel
  simp only [k0_part4_eq_skeleton]; unfold k0_part4_skel
  simp only [k0_part3_eq_skeleton, k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fa, %hfa, HA⟩, ⟨%dh, %fh, -, HH⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  obtain rfl := harg15.eq_unread hf14
  obtain rfl := harg16.eq_unread hfa
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [HA]
  · iexists _; isplitr; swap; · iexact HA
    ipureintro
    refine (read_stack _ _ _ _ rfl rfl _ _ []).trans ?_
    unfold accMiddle middleRun.sl.r middleRun.sl.r_1 middleRun.sl.r_2 middleRun.sl.r_3 middleRun.sl.r_4 middleRun.sl.v89
    rw [readAt_all arg1 harg1 x0, readAt_all arg2 harg2 x1, readAt_all arg3 harg3 x2]
    rw [readAt_upper arg16 harg16 xa, readAt_lower arg16 harg16 xa]
  iexists _, _; isplitr; swap; · iexact HH
  ipureintro; rfl

end Cert.KernelIdeal.Hand

end
-- ==== Proof.ILoopA.lean ====
/- The first of the two loops of the last point. -/
module

public import proofs.«01_k».proof.Proof.IVals

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Offsets and trips of the two loops -/

theorem trips1 : k0_t1_loop.trips = 2 := by decide +kernel
theorem trips2 : k0_t2_loop.trips = 2 := by decide +kernel
/-- The two trips. -/
abbrev a0 : Fin k0_t1_loop.trips := ⟨0, by decide +kernel⟩
abbrev a1 : Fin k0_t1_loop.trips := ⟨1, by decide +kernel⟩
abbrev b0 : Fin k0_t2_loop.trips := ⟨0, by decide +kernel⟩
abbrev b1 : Fin k0_t2_loop.trips := ⟨1, by decide +kernel⟩
theorem off1_0 : k0_off1 a0 = ![0, 0] := by decide +kernel
theorem off1_1 : k0_off1 a1 = ![512, 0] := by decide +kernel
theorem off2_0 : k0_off2 b0 = ![0, 0] := by decide +kernel
theorem off2_1 : k0_off2 b1 = ![512, 0] := by decide +kernel
theorem off3_0 : k0_off3 b0 = ![0, 0] := by decide +kernel
theorem off3_1 : k0_off3 b1 = ![0, 512] := by decide +kernel
theorem off4_0 : k0_off4 b0 = ![0, 0] := by decide +kernel
theorem off4_1 : k0_off4 b1 = ![0, 512] := by decide +kernel

section
variable (c : Dev nD) (i : grid0.Coords)
  (arg1 : Memref sig .tc .vmem S1x7x512x256 .f32) (harg1 : arg1.IsWhole)
  (arg2 : Memref sig .tc .vmem S1x7x512x256 .f32) (harg2 : arg2.IsWhole)
  (arg3 : Memref sig .tc .vmem S1792x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S81x1024 .f32) (harg9 : arg9.IsWhole)
  (arg10 : Memref sig .tc .vmem S81x1 .f32) (harg10 : arg10.IsWhole)
  (arg11 : Memref sig .tc .vmem S324x1024 .f32) (harg11 : arg11.IsWhole)
  (arg12 : Memref sig .tc .vmem S324x1 .f32) (harg12 : arg12.IsWhole)
  (arg13 : Memref sig .tc .vmem S81x1024 .f32) (harg13 : arg13.IsWhole)
  (arg14 : Memref sig .tc .vmem S81x1024 .f32) (harg14 : arg14.IsWhole)
  (arg15 : Memref sig .tc .vmem S324x1024 .f32) (harg15 : arg15.IsWhole)
  (arg16 : Memref sig .tc .vmem S1024x1024 .f32) (harg16 : arg16.IsWhole)
  (arg17 : Memref sig .tc .vmem S1024x1024 .f32) (harg17 : arg17.IsWhole)
  (hl : k0_cond3 i = 1#1)

/-! ## The first loop -/

/-- What the first loop has carried and stored after its two trips. -/
theorem state1 (sc be ms z1 z2 : FVec F S1x1024 .f32) (W X : Vec F S1024x1024 .f32) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl sc be ms (harg6.unread W) (harg16.unread X) (z1, z2) k0_t1_loop.trips
      = ((sums sc be ms z1 X W, squares sc be ms z2 X W),
        [⟨Rect.unit (s := S1024x1024) (k0_off1 a1) S512x1024.size (k0_off1_inb i a1 hl), k0_pay24 sc be ms (half X 1) W⟩,
         ⟨Rect.unit (s := S1024x1024) (k0_off1 a0) S512x1024.size (k0_off1_inb i a0 hl), k0_pay24 sc be ms (half X 0) W⟩]) := by
  have e0 := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl sc be ms (harg6.unread W) (harg16.unread X) (z1, z2) a0
  have e1 := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl sc be ms (harg6.unread W) (harg16.unread X) (z1, z2) a1
  refine (congrArg _ trips1).trans (e1.trans ?_)
  rw [show (a1 : Fin k0_t1_loop.trips).val = (a0 : Fin k0_t1_loop.trips).val + 1 from rfl, e0]
  rw [show (a0 : Fin k0_t1_loop.trips).val = 0 from rfl]
  simp only [st_k0_t1]
  unfold tripR_k0_t1 tripL_k0_t1 trip_k0_t1
  dsimp only
  rw [readAt_all arg6 harg6 W, readAt_half arg16.view _ _ 0 off1_0, readAt_half arg16.view _ _ 1 off1_1, harg16.read_unread]
  rfl

/-- The first loop leaves the second layer's matrix in its buffer and carries out the column sums. -/
theorem loop1_run (sc be ms z1 z2 : FVec F S1x1024 .f32) (W X : Vec F S1024x1024 .f32) (E : Set ℕ) :
    (iprop(owns (c : Thread nD τ) arg6 fullShare W ∗ owns (c : Thread nD τ) arg16 fullShare X ∗ (∃ d, owns (c : Thread nD τ) arg17 fullShare d)) : sProp 𝕄)
      ⊢ wp frame (wpE (defs₀ (F := F)) Variants.none c none) E
          (Scf.Loop.for k0_t1_loop (k0_t1_ok i hl) (z1, z2) (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl sc be ms))
          (fun r => iprop(⌜r = (sums sc be ms z1 X W, squares sc be ms z2 X W)⌝ ∗ owns (c : Thread nD τ) arg6 fullShare W ∗ owns (c : Thread nD τ) arg16 fullShare X ∗ owns (c : Thread nD τ) arg17 fullShare (hidden sc be ms X W))) := by
  unfold owns
  iintro ⟨⟨%f6, %hf6, H6⟩, ⟨%fa, %hfa, HA⟩, ⟨%dh, %fh, -, HH⟩⟩
  obtain rfl := harg6.eq_unread hf6
  obtain rfl := harg16.eq_unread hfa
  iapply (Scf.wp_for frame (wpE (defs₀ (F := F)) Variants.none (c : Thread nD τ) none) E _ _ _ (k0_t1_ok i hl) (z1, z2) _
    (inv_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl sc be ms (harg6.unread W) (harg16.unread X) fh (z1, z2))
    (loopInv_k0_t1 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl sc be ms (harg6.unread W) (harg16.unread X) fh (z1, z2)).step)
  isplitl [H6 HA HH]
  · isplitl [H6]; · iexact H6
    isplitl [HA]; · iexact HA
    isplitl [HH]
    · iexists _; isplitl [HH]; · iexact HH
      ipureintro; rfl
    ipureintro; rfl
  iintro %acc ⟨H6, HA, ⟨%f, HH, %hf⟩, %hacc⟩
  rw [state1] at hf hacc
  isplitr
  · ipureintro; exact hacc
  isplitl [H6]
  · iexists _; isplitr; · ipureintro; exact harg6.read_unread _
    iexact H6
  isplitl [HA]
  · iexists _; isplitr; · ipureintro; exact harg16.read_unread _
    iexact HA
  iexists _; isplitr; swap; · iexact HH
  ipureintro
  subst hf
  exact read_stack arg17.view fh _ _ off1_1 off1_0 _ _ []

end

end Cert.KernelIdeal.Hand

end
-- ==== Proof.ILoopB.lean ====
/- The second of the two loops of the last point. -/
module

public import proofs.«01_k».proof.Proof.ILoopA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid0.Coords)
  (arg1 : Memref sig .tc .vmem S1x7x512x256 .f32) (harg1 : arg1.IsWhole)
  (arg2 : Memref sig .tc .vmem S1x7x512x256 .f32) (harg2 : arg2.IsWhole)
  (arg3 : Memref sig .tc .vmem S1792x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S81x1024 .f32) (harg9 : arg9.IsWhole)
  (arg10 : Memref sig .tc .vmem S81x1 .f32) (harg10 : arg10.IsWhole)
  (arg11 : Memref sig .tc .vmem S324x1024 .f32) (harg11 : arg11.IsWhole)
  (arg12 : Memref sig .tc .vmem S324x1 .f32) (harg12 : arg12.IsWhole)
  (arg13 : Memref sig .tc .vmem S81x1024 .f32) (harg13 : arg13.IsWhole)
  (arg14 : Memref sig .tc .vmem S81x1024 .f32) (harg14 : arg14.IsWhole)
  (arg15 : Memref sig .tc .vmem S324x1024 .f32) (harg15 : arg15.IsWhole)
  (arg16 : Memref sig .tc .vmem S1024x1024 .f32) (harg16 : arg16.IsWhole)
  (arg17 : Memref sig .tc .vmem S1024x1024 .f32) (harg17 : arg17.IsWhole)
  (hl : k0_cond3 i = 1#1)

/-- What the second loop has stored after its two trips. -/
theorem state2 (s1 s2 g be : FVec F S1x1024 .f32) (W : Vec F S81x1024 .f32) (B : Vec F S81x1 .f32) (D : Vec F S324x1024 .f32) (C : Vec F S324x1 .f32) (H : Vec F S1024x1024 .f32) :
    pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl s1 s2 g be (harg9.unread W) (harg10.unread B) (harg11.unread D) (harg12.unread C) (harg17.unread H) k0_t2_loop.trips
      = ([⟨Rect.unit (s := S81x1024) (k0_off3 b1) S81x512.size (k0_off3_inb i b1 hl), k0_pay2 (k0_pay28 s1 s2 g) (k0_pay29 s1 s2 g be) (half H 1) W B⟩,
         ⟨Rect.unit (s := S81x1024) (k0_off3 b0) S81x512.size (k0_off3_inb i b0 hl), k0_pay2 (k0_pay28 s1 s2 g) (k0_pay29 s1 s2 g be) (half H 0) W B⟩],
        [⟨Rect.unit (s := S81x1024) (k0_off3 b1) S81x512.size (k0_off3_inb i b1 hl), k0_pay3 (k0_pay28 s1 s2 g) (k0_pay29 s1 s2 g be) (half H 1) W B⟩,
         ⟨Rect.unit (s := S81x1024) (k0_off3 b0) S81x512.size (k0_off3_inb i b0 hl), k0_pay3 (k0_pay28 s1 s2 g) (k0_pay29 s1 s2 g be) (half H 0) W B⟩],
        [⟨Rect.unit (s := S324x1024) (k0_off4 b1) S324x512.size (k0_off4_inb i b1 hl), k0_pay4 (k0_pay28 s1 s2 g) (k0_pay29 s1 s2 g be) (half H 1) D C⟩,
         ⟨Rect.unit (s := S324x1024) (k0_off4 b0) S324x512.size (k0_off4_inb i b0 hl), k0_pay4 (k0_pay28 s1 s2 g) (k0_pay29 s1 s2 g be) (half H 0) D C⟩]) := by
  have e0 := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl s1 s2 g be (harg9.unread W) (harg10.unread B) (harg11.unread D) (harg12.unread C) (harg17.unread H) b0
  have e1 := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl s1 s2 g be (harg9.unread W) (harg10.unread B) (harg11.unread D) (harg12.unread C) (harg17.unread H) b1
  refine (congrArg _ trips2).trans (e1.trans ?_)
  rw [show (b1 : Fin k0_t2_loop.trips).val = (b0 : Fin k0_t2_loop.trips).val + 1 from rfl, e0]
  rw [show (b0 : Fin k0_t2_loop.trips).val = 0 from rfl]
  simp only [pb_k0_t2]
  unfold trip_k0_t2
  dsimp only
  rw [readAt_all arg9 harg9 W, readAt_all arg10 harg10 B, readAt_all arg11 harg11 D, readAt_all arg12 harg12 C,
    readAt_half arg17.view _ _ 0 off2_0, readAt_half arg17.view _ _ 1 off2_1, harg17.read_unread]
  rfl

/-- The second loop writes the three outputs, half the columns at a time. -/
theorem loop2_run (s1 s2 g be : FVec F S1x1024 .f32) (W : Vec F S81x1024 .f32) (B : Vec F S81x1 .f32) (D : Vec F S324x1024 .f32) (C : Vec F S324x1 .f32) (H : Vec F S1024x1024 .f32) (E : Set ℕ) :
    (iprop(owns (c : Thread nD τ) arg9 fullShare W ∗ owns (c : Thread nD τ) arg10 fullShare B ∗ owns (c : Thread nD τ) arg11 fullShare D ∗ owns (c : Thread nD τ) arg12 fullShare C ∗ (∃ d, owns (c : Thread nD τ) arg13 fullShare d) ∗ (∃ d, owns (c : Thread nD τ) arg14 fullShare d) ∗ (∃ d, owns (c : Thread nD τ) arg15 fullShare d) ∗ owns (c : Thread nD τ) arg17 fullShare H) : sProp 𝕄)
      ⊢ wp frame (wpE (defs₀ (F := F)) Variants.none c none) E
          (Scf.Loop.for k0_t2_loop (k0_t2_ok i hl) ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl s1 s2 g be))
          (fun _ => iprop(owns (c : Thread nD τ) arg9 fullShare W ∗ owns (c : Thread nD τ) arg10 fullShare B ∗ owns (c : Thread nD τ) arg11 fullShare D ∗ owns (c : Thread nD τ) arg12 fullShare C ∗ owns (c : Thread nD τ) arg13 fullShare (outLogits (k0_pay28 s1 s2 g) (k0_pay29 s1 s2 g be) H W B) ∗ owns (c : Thread nD τ) arg14 fullShare (outProbs (k0_pay28 s1 s2 g) (k0_pay29 s1 s2 g be) H W B) ∗ owns (c : Thread nD τ) arg15 fullShare (outDeltas (k0_pay28 s1 s2 g) (k0_pay29 s1 s2 g be) H D C) ∗ owns (c : Thread nD τ) arg17 fullShare H)) := by
  unfold owns
  iintro ⟨⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f17, %hf17, H17⟩⟩
  obtain rfl := harg9.eq_unread hf9
  obtain rfl := harg10.eq_unread hf10
  obtain rfl := harg11.eq_unread hf11
  obtain rfl := harg12.eq_unread hf12
  obtain rfl := harg17.eq_unread hf17
  iapply (Scf.wp_for frame (wpE (defs₀ (F := F)) Variants.none (c : Thread nD τ) none) E _ _ _ (k0_t2_ok i hl) () _
    (inv_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl s1 s2 g be (harg9.unread W) (harg10.unread B) (harg11.unread D) (harg12.unread C) (harg17.unread H) f13 f14 f15)
    (loopInv_k0_t2 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hl s1 s2 g be (harg9.unread W) (harg10.unread B) (harg11.unread D) (harg12.unread C) (harg17.unread H) f13 f14 f15).step)
  isplitl [H9 H10 H11 H12 H13 H14 H15 H17]
  · isplitl [H9]; · iexact H9
    isplitl [H10]; · iexact H10
    isplitl [H11]; · iexact H11
    isplitl [H12]; · iexact H12
    isplitl [H17]; · iexact H17
    isplitl [H13]
    · iexists _; isplitl [H13]; · iexact H13
      ipureintro; rfl
    isplitl [H14]
    · iexists _; isplitl [H14]; · iexact H14
      ipureintro; rfl
    iexists _; isplitl [H15]; · iexact H15
    ipureintro; rfl
  iintro %acc ⟨H9, H10, H11, H12, H17, ⟨%u13, H13, %h13⟩, ⟨%u14, H14, %h14⟩, ⟨%u15, H15, %h15⟩⟩
  rw [state2] at h13 h14 h15
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    subst h13
    exact read_beside arg13.view f13 _ _ off3_1 off3_0 _ _ []
  isplitl [H14]
  · iexists _; isplitr; swap; · iexact H14
    ipureintro
    subst h14
    exact read_beside arg14.view f14 _ _ off3_1 off3_0 _ _ []
  isplitl [H15]
  · iexists _; isplitr; swap; · iexact H15
    ipureintro
    subst h15
    exact read_beside arg15.view f15 _ _ off4_1 off4_0 _ _ []
  iexists _; isplitr; · ipureintro; exact harg17.read_unread _
  iexact H17

end

end Cert.KernelIdeal.Hand

end
-- ==== Proof.ILast.lean ====
/- What the body does at the last point of the grid. -/
module

public import proofs.«01_k».proof.Proof.ILoopB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the last point stores -/

section
variable (x0 x1 : Vec F S1x7x512x256 .f32) (x2 : Vec F S1792x1024 .f32) (x3 x4 : Vec F S1x1024 .f32) (x5 : Vec F S1024x1024 .f32) (x6 x7 : Vec F S1x1024 .f32)
  (x8 : Vec F S81x1024 .f32) (x9 : Vec F S81x1 .f32) (x10 : Vec F S324x1024 .f32) (x11 : Vec F S324x1 .f32) (xa : Vec F S1024x1024 .f32)

/-- The first normalisation's scale, -/
def scale1 : FVec F S1x1024 .f32 :=
  k0_pay11 (k0_pay14 x2 x0) (k0_pay18 x2 (k0_pay15 x1) (k0_pay16 x1) (k0_pay17 x2)) (half xa 0) (half xa 1) x3
/-- and the mean times that scale. -/
def shift1 : FVec F S1x1024 .f32 :=
  k0_pay13 (k0_pay14 x2 x0) (k0_pay18 x2 (k0_pay15 x1) (k0_pay16 x1) (k0_pay17 x2)) (half xa 0) (half xa 1) x3
/-- The second layer's matrix. -/
def lastHidden : Vec F S1024x1024 .f32 := hidden (scale1 x0 x1 x2 x3 xa) (k0_pay12 x4) (shift1 x0 x1 x2 x3 xa) (accLast x0 x1 x2 xa) x5
/-- Its column sums -/
def lastSums : FVec F S1x1024 .f32 := sums (scale1 x0 x1 x2 x3 xa) (k0_pay12 x4) (shift1 x0 x1 x2 x3 xa) (k0_pay5 (F := F)) (accLast x0 x1 x2 xa) x5
/-- and column sums of squares. -/
def lastSquares : FVec F S1x1024 .f32 := squares (scale1 x0 x1 x2 x3 xa) (k0_pay12 x4) (shift1 x0 x1 x2 x3 xa) (k0_pay5 (F := F)) (accLast x0 x1 x2 xa) x5
/-- The second normalisation's scale and shift. -/
def scale2 : FVec F S1x1024 .f32 := k0_pay28 (lastSums x0 x1 x2 x3 x4 x5 xa) (lastSquares x0 x1 x2 x3 x4 x5 xa) x6
def shift2 : FVec F S1x1024 .f32 := k0_pay29 (lastSums x0 x1 x2 x3 x4 x5 xa) (lastSquares x0 x1 x2 x3 x4 x5 xa) x6 x7
/-- The three outputs. -/
def lastLogits : Vec F S81x1024 .f32 :=
  outLogits (scale2 x0 x1 x2 x3 x4 x5 x6 xa) (shift2 x0 x1 x2 x3 x4 x5 x6 x7 xa) (lastHidden x0 x1 x2 x3 x4 x5 xa) x8 x9
def lastProbs : Vec F S81x1024 .f32 :=
  outProbs (scale2 x0 x1 x2 x3 x4 x5 x6 xa) (shift2 x0 x1 x2 x3 x4 x5 x6 x7 xa) (lastHidden x0 x1 x2 x3 x4 x5 xa) x8 x9
def lastDeltas : Vec F S324x1024 .f32 :=
  outDeltas (scale2 x0 x1 x2 x3 x4 x5 x6 xa) (shift2 x0 x1 x2 x3 x4 x5 x6 x7 xa) (lastHidden x0 x1 x2 x3 x4 x5 xa) x10 x11

end

set_option maxHeartbeats 4000000 in
/-- The last point completes the accumulator, normalises, runs the second layer into the other scratch and writes the three outputs. -/
theorem lastRun (c : Dev nD) (i : grid0.Coords)
  (arg1 : Memref sig .tc .vmem S1x7x512x256 .f32) (harg1 : arg1.IsWhole)
  (arg2 : Memref sig .tc .vmem S1x7x512x256 .f32) (harg2 : arg2.IsWhole)
  (arg3 : Memref sig .tc .vmem S1792x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S81x1024 .f32) (harg9 : arg9.IsWhole)
  (arg10 : Memref sig .tc .vmem S81x1 .f32) (harg10 : arg10.IsWhole)
  (arg11 : Memref sig .tc .vmem S324x1024 .f32) (harg11 : arg11.IsWhole)
  (arg12 : Memref sig .tc .vmem S324x1 .f32) (harg12 : arg12.IsWhole)
  (arg13 : Memref sig .tc .vmem S81x1024 .f32) (harg13 : arg13.IsWhole)
  (arg14 : Memref sig .tc .vmem S81x1024 .f32) (harg14 : arg14.IsWhole)
  (arg15 : Memref sig .tc .vmem S324x1024 .f32) (harg15 : arg15.IsWhole)
  (arg16 : Memref sig .tc .vmem S1024x1024 .f32) (harg16 : arg16.IsWhole)
  (arg17 : Memref sig .tc .vmem S1024x1024 .f32) (harg17 : arg17.IsWhole)
  (h0 : ¬isFirst i) (h1 : ¬isMiddle i) (h2 : isLast i)
  (x0 : Vec F S1x7x512x256 .f32) (x1 : Vec F S1x7x512x256 .f32) (x2 : Vec F S1792x1024 .f32) (x3 : Vec F S1x1024 .f32) (x4 : Vec F S1x1024 .f32) (x5 : Vec F S1024x1024 .f32) (x6 : Vec F S1x1024 .f32) (x7 : Vec F S1x1024 .f32) (x8 : Vec F S81x1024 .f32) (x9 : Vec F S81x1 .f32) (x10 : Vec F S324x1024 .f32) (x11 : Vec F S324x1 .f32) (xa : Vec F S1024x1024 .f32) (E : Set ℕ) (K : PUnit → sProp 𝕄) :
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xa ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (lastLogits x0 x1 x2 x3 x4 x5 x6 x7 x8 x9 xa) ∗ owns (c : Thread nD τ) arg14 fullShare (lastProbs x0 x1 x2 x3 x4 x5 x6 x7 x8 x9 xa) ∗ owns (c : Thread nD τ) arg15 fullShare (lastDeltas x0 x1 x2 x3 x4 x5 x6 x7 x10 x11 xa) ∗ owns (c : Thread nD τ) arg16 fullShare (accLast x0 x1 x2 xa) ∗ owns (c : Thread nD τ) arg17 fullShare (lastHidden x0 x1 x2 x3 x4 x5 xa)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__head_kernel_eq_skeleton]; unfold cc0__head_kernel_skel
  simp only [k0_part4_eq_skeleton]; unfold k0_part4_skel
  simp only [k0_part3_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%d14, %f14, %hf14, H14⟩, ⟨%fa, %hfa, HA⟩, ⟨%dh, %fh, %hfh, HH⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg16.eq_unread hfa
  sl_exec (disch := first | sl_exact h0 | sl_exact h1 | sl_exact h2)
  simp only [bind_assoc]
  rw [wp_bind]
  have e5 : lastRun.sl.r_5 (F := F) c arg1 harg1 arg2 harg2 arg3 harg3 arg4 harg4 arg16 harg16 x0 x1 x2 x3 xa = scale1 x0 x1 x2 x3 xa := by
    unfold scale1 lastRun.sl.r_5
    unfold lastRun.sl.r lastRun.sl.r_1 lastRun.sl.r_2 lastRun.sl.r_3 lastRun.sl.r_4
    rw [readAt_all arg1 harg1 x0, readAt_all arg2 harg2 x1, readAt_all arg3 harg3 x2, readAt_all arg4 harg4 x3, readAt_upper arg16 harg16 xa, readAt_lower arg16 harg16 xa]
  have e6 : lastRun.sl.r_6 (F := F) c arg5 harg5 x4 = k0_pay12 x4 := by
    unfold lastRun.sl.r_6
    rw [readAt_all arg5 harg5 x4]
  have e7 : lastRun.sl.r_7 (F := F) c arg1 harg1 arg2 harg2 arg3 harg3 arg4 harg4 arg16 harg16 x0 x1 x2 x3 xa = shift1 x0 x1 x2 x3 xa := by
    unfold shift1 lastRun.sl.r_7
    unfold lastRun.sl.r lastRun.sl.r_1 lastRun.sl.r_2 lastRun.sl.r_3 lastRun.sl.r_4
    rw [readAt_all arg1 harg1 x0, readAt_all arg2 harg2 x1, readAt_all arg3 harg3 x2, readAt_all arg4 harg4 x3, readAt_upper arg16 harg16 xa, readAt_lower arg16 harg16 xa]
  rw [e5, e6, e7]
  iapply (wp_wand_r frame (wpE (defs₀ (F := F)) Variants.none (c : Thread nD τ) none) E)
  isplitl [H5 HA HH]
  · iapply (loop1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 (scale1 x0 x1 x2 x3 xa) (k0_pay12 x4) (shift1 x0 x1 x2 x3 xa) (k0_pay5 (F := F)) (k0_pay5 (F := F)) x5 (accLast x0 x1 x2 xa) E)
    unfold owns
    isplitl [H5]
    · iexists _; isplitr; · ipureintro; exact harg6.read_unread _
      iexact H5
    isplitl [HA]
    · iexists _; isplitr; swap; · iexact HA
      ipureintro
      refine (read_stack _ _ _ _ rfl rfl _ _ []).trans ?_
      unfold accLast
      unfold lastRun.sl.r lastRun.sl.r_1 lastRun.sl.r_2 lastRun.sl.r_3 lastRun.sl.r_4
      rw [readAt_all arg1 harg1 x0, readAt_all arg2 harg2 x1, readAt_all arg3 harg3 x2, readAt_upper arg16 harg16 xa, readAt_lower arg16 harg16 xa]
    iexists _, _; isplitr; swap; · iexact HH
    ipureintro; rfl
  iintro %r ⟨%hr, H5, HA, HH⟩
  subst hr
  dsimp only
  set_option sl_exec.maxSteps 2 in sl_exec
  rw [wp_bind, readAt_all arg7 harg7 x6, readAt_all arg8 harg8 x7]
  iapply (wp_wand_r frame (wpE (defs₀ (F := F)) Variants.none (c : Thread nD τ) none) E)
  isplitl [H8 H9 H10 H11 H12 H13 H14 HH]
  · iapply (loop2_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 (lastSums x0 x1 x2 x3 x4 x5 xa) (lastSquares x0 x1 x2 x3 x4 x5 xa) x6 x7 x8 x9 x10 x11 (lastHidden x0 x1 x2 x3 x4 x5 xa) E)
    unfold owns
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexact HH
  iintro %u ⟨H8, H9, H10, H11, H12, H13, H14, HH⟩
  sl_exec
  sl_step
  unfold lastLogits lastProbs lastDeltas scale2 shift2 owns
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]; · iexact H5
  isplitl [H6]
  · iexists _; isplitr; · ipureintro; exact harg7.read_unread _
    iexact H6
  isplitl [H7]
  · iexists _; isplitr; · ipureintro; exact harg8.read_unread _
    iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HA]; · iexact HA
  iexact HH

end Cert.KernelIdeal.Hand

end
-- ==== Proof.IRun.lean ====
/- The body at every point of the grid, the launch, and the frame of the program. -/
module

public import proofs.«01_k».proof.Proof.IFirst
public import proofs.«01_k».proof.Proof.IMiddle
public import proofs.«01_k».proof.Proof.ILast
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds -/

/-- The accumulator after point `n`: the first point's products, each later point adding its own. -/
def accAt (c : Dev nD) : (n : ℕ) → n < cfg0.N → Vec F S1024x1024 .f32
  | 0, h => accFirst (iblk m c 0 ⟨0, h⟩) (iblk m c 1 ⟨0, h⟩) (iblk m c 2 ⟨0, h⟩)
  | n + 1, h => if n + 1 = 6 then accLast (iblk m c 0 ⟨n + 1, h⟩) (iblk m c 1 ⟨n + 1, h⟩) (iblk m c 2 ⟨n + 1, h⟩) (accAt c n (Nat.lt_of_succ_lt h))
      else accMiddle (iblk m c 0 ⟨n + 1, h⟩) (iblk m c 1 ⟨n + 1, h⟩) (iblk m c 2 ⟨n + 1, h⟩) (accAt c n (Nat.lt_of_succ_lt h))

theorem accAt_first (c : Dev nD) (t : Fin cfg0.N) (h : t.val = 0) :
    accAt m c t.val t.isLt = accFirst (iblk m c 0 t) (iblk m c 1 t) (iblk m c 2 t) := by
  obtain ⟨n, hn⟩ := t; cases n with
  | zero => rfl
  | succ n => exact absurd h (Nat.succ_ne_zero n)

theorem accAt_middle (c : Dev nD) (t : Fin cfg0.N) (h : t.val ≠ 0) (h6 : t.val ≠ 6) :
    accAt m c t.val t.isLt = accMiddle (iblk m c 0 t) (iblk m c 1 t) (iblk m c 2 t) (accAt m c (t.val - 1) (by have := t.isLt; omega)) := by
  obtain ⟨n, hn⟩ := t; cases n with
  | zero => exact absurd rfl h
  | succ n => exact if_neg h6

theorem accAt_last (c : Dev nD) (t : Fin cfg0.N) (h : t.val ≠ 0) (h6 : t.val = 6) :
    accAt m c t.val t.isLt = accLast (iblk m c 0 t) (iblk m c 1 t) (iblk m c 2 t) (accAt m c (t.val - 1) (by have := t.isLt; omega)) := by
  obtain ⟨n, hn⟩ := t; cases n with
  | zero => exact absurd rfl h
  | succ n => exact if_pos h6

/-! ## The invariant between points and the pipeline's proof data -/

/-- Before the first point both scratch buffers hold anything; after point `n` the accumulator holds `accAt`. -/
def Inv (c : Dev nD) : (n : ℕ) → n ≤ cfg0.N → sProp 𝕄
  | 0, _ => Pipeline.ΦA spec0 c
  | n + 1, h => iprop(iprop(owns (c : Thread nD τ) accM fullShare (accAt m c n h) ∗ (∃ d, owns (c : Thread nD τ) hidM fullShare d)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (h : n < cfg0.N) :
    Inv m c (n + 1) h = iprop(iprop(owns (c : Thread nD τ) accM fullShare (accAt m c n h) ∗ (∃ d, owns (c : Thread nD τ) hidM fullShare d)) ∗ (∃ r, prngReg c r)) := rfl

theorem Inv_pos (c : Dev nD) (n : ℕ) (h : n ≤ cfg0.N) (hz : n ≠ 0) :
    Inv m c n h = iprop(iprop(owns (c : Thread nD τ) accM fullShare (accAt m c (n - 1) (by omega)) ∗ (∃ d, owns (c : Thread nD τ) hidM fullShare d)) ∗ (∃ r, prngReg c r)) := by
  cases n with
  | zero => exact absurd rfl hz
  | succ n => rfl

/-- The proof data: the arrays as the region finds them; every input left at its block; the outputs at the last point's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => lastLogits (iblk m c 0 t) (iblk m c 1 t) (iblk m c 2 t) (iblk m c 3 t) (iblk m c 4 t) (iblk m c 5 t) (iblk m c 6 t) (iblk m c 7 t) (iblk m c 8 t) (iblk m c 9 t) (accAt m c (t.val - 1) (by have := t.isLt; omega))
    | ⟨13, _⟩ => lastProbs (iblk m c 0 t) (iblk m c 1 t) (iblk m c 2 t) (iblk m c 3 t) (iblk m c 4 t) (iblk m c 5 t) (iblk m c 6 t) (iblk m c 7 t) (iblk m c 8 t) (iblk m c 9 t) (accAt m c (t.val - 1) (by have := t.isLt; omega))
    | ⟨14, _⟩ => lastDeltas (iblk m c 0 t) (iblk m c 1 t) (iblk m c 2 t) (iblk m c 3 t) (iblk m c 4 t) (iblk m c 5 t) (iblk m c 6 t) (iblk m c 7 t) (iblk m c 10 t) (iblk m c 11 t) (accAt m c (t.val - 1) (by have := t.isLt; omega))
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]
theorem aft6 (c : Dev nD) (t : Fin cfg0.N) : (dats m 0 c).after 6 t = iblk m c 6 t := by dsimp only [dats]
theorem aft7 (c : Dev nD) (t : Fin cfg0.N) : (dats m 0 c).after 7 t = iblk m c 7 t := by dsimp only [dats]
theorem aft8 (c : Dev nD) (t : Fin cfg0.N) : (dats m 0 c).after 8 t = iblk m c 8 t := by dsimp only [dats]
theorem aft9 (c : Dev nD) (t : Fin cfg0.N) : (dats m 0 c).after 9 t = iblk m c 9 t := by dsimp only [dats]
theorem aft10 (c : Dev nD) (t : Fin cfg0.N) : (dats m 0 c).after 10 t = iblk m c 10 t := by dsimp only [dats]
theorem aft11 (c : Dev nD) (t : Fin cfg0.N) : (dats m 0 c).after 11 t = iblk m c 11 t := by dsimp only [dats]
theorem aft12 (c : Dev nD) (t : Fin cfg0.N) : (dats m 0 c).after 12 t = lastLogits (iblk m c 0 t) (iblk m c 1 t) (iblk m c 2 t) (iblk m c 3 t) (iblk m c 4 t) (iblk m c 5 t) (iblk m c 6 t) (iblk m c 7 t) (iblk m c 8 t) (iblk m c 9 t) (accAt m c (t.val - 1) (by have := t.isLt; omega)) := by dsimp only [dats]
theorem aft13 (c : Dev nD) (t : Fin cfg0.N) : (dats m 0 c).after 13 t = lastProbs (iblk m c 0 t) (iblk m c 1 t) (iblk m c 2 t) (iblk m c 3 t) (iblk m c 4 t) (iblk m c 5 t) (iblk m c 6 t) (iblk m c 7 t) (iblk m c 8 t) (iblk m c 9 t) (accAt m c (t.val - 1) (by have := t.isLt; omega)) := by dsimp only [dats]
theorem aft14 (c : Dev nD) (t : Fin cfg0.N) : (dats m 0 c).after 14 t = lastDeltas (iblk m c 0 t) (iblk m c 1 t) (iblk m c 2 t) (iblk m c 3 t) (iblk m c 4 t) (iblk m c 5 t) (iblk m c 6 t) (iblk m c 7 t) (iblk m c 10 t) (iblk m c 11 t) (accAt m c (t.val - 1) (by have := t.isLt; omega)) := by dsimp only [dats]
theorem bef0 (c : Dev nD) (t : Fin cfg0.N) (d) : (dats m 0 c).before 0 t d = iblk m c 0 t :=
  before0_0_of m (dats m 0 c) (A_eq m c 0) (aft0 m c) t d
theorem bef1 (c : Dev nD) (t : Fin cfg0.N) (d) : (dats m 0 c).before 1 t d = iblk m c 1 t :=
  before0_1_of m (dats m 0 c) (A_eq m c 1) (aft1 m c) t d
theorem bef2 (c : Dev nD) (t : Fin cfg0.N) (d) : (dats m 0 c).before 2 t d = iblk m c 2 t :=
  before0_2_of m (dats m 0 c) (A_eq m c 2) (aft2 m c) t d
theorem bef3 (c : Dev nD) (t : Fin cfg0.N) (d) : (dats m 0 c).before 3 t d = iblk m c 3 t :=
  before0_3_of m (dats m 0 c) (A_eq m c 3) (aft3 m c) t d
theorem bef4 (c : Dev nD) (t : Fin cfg0.N) (d) : (dats m 0 c).before 4 t d = iblk m c 4 t :=
  before0_4_of m (dats m 0 c) (A_eq m c 4) (aft4 m c) t d
theorem bef5 (c : Dev nD) (t : Fin cfg0.N) (d) : (dats m 0 c).before 5 t d = iblk m c 5 t :=
  before0_5_of m (dats m 0 c) (A_eq m c 5) (aft5 m c) t d
theorem bef6 (c : Dev nD) (t : Fin cfg0.N) (d) : (dats m 0 c).before 6 t d = iblk m c 6 t :=
  before0_6_of m (dats m 0 c) (A_eq m c 6) (aft6 m c) t d
theorem bef7 (c : Dev nD) (t : Fin cfg0.N) (d) : (dats m 0 c).before 7 t d = iblk m c 7 t :=
  before0_7_of m (dats m 0 c) (A_eq m c 7) (aft7 m c) t d
theorem bef8 (c : Dev nD) (t : Fin cfg0.N) (d) : (dats m 0 c).before 8 t d = iblk m c 8 t :=
  before0_8_of m (dats m 0 c) (A_eq m c 8) (aft8 m c) t d
theorem bef9 (c : Dev nD) (t : Fin cfg0.N) (d) : (dats m 0 c).before 9 t d = iblk m c 9 t :=
  before0_9_of m (dats m 0 c) (A_eq m c 9) (aft9 m c) t d
theorem bef10 (c : Dev nD) (t : Fin cfg0.N) (d) : (dats m 0 c).before 10 t d = iblk m c 10 t :=
  before0_10_of m (dats m 0 c) (A_eq m c 10) (aft10 m c) t d
theorem bef11 (c : Dev nD) (t : Fin cfg0.N) (d) : (dats m 0 c).before 11 t d = iblk m c 11 t :=
  before0_11_of m (dats m 0 c) (A_eq m c 11) (aft11 m c) t d
theorem leaves0 (c : Dev nD) (t : Fin cfg0.N) : (dats m 0 c).leavesExact 0 t = owns (c : Thread nD τ) (st0 t) fullShare (iblk m c 0 t) := by
  rw [← aft0 m c t]
theorem leaves1 (c : Dev nD) (t : Fin cfg0.N) : (dats m 0 c).leavesExact 1 t = owns (c : Thread nD τ) (st1 t) fullShare (iblk m c 1 t) := by
  rw [← aft1 m c t]
theorem leaves2 (c : Dev nD) (t : Fin cfg0.N) : (dats m 0 c).leavesExact 2 t = owns (c : Thread nD τ) (st2 t) fullShare (iblk m c 2 t) := by
  rw [← aft2 m c t]
theorem leaves3 (c : Dev nD) (t : Fin cfg0.N) : (dats m 0 c).leavesExact 3 t = owns (c : Thread nD τ) (st3 t) fullShare (iblk m c 3 t) := by
  rw [← aft3 m c t]
theorem leaves4 (c : Dev nD) (t : Fin cfg0.N) : (dats m 0 c).leavesExact 4 t = owns (c : Thread nD τ) (st4 t) fullShare (iblk m c 4 t) := by
  rw [← aft4 m c t]
theorem leaves5 (c : Dev nD) (t : Fin cfg0.N) : (dats m 0 c).leavesExact 5 t = owns (c : Thread nD τ) (st5 t) fullShare (iblk m c 5 t) := by
  rw [← aft5 m c t]
theorem leaves6 (c : Dev nD) (t : Fin cfg0.N) : (dats m 0 c).leavesExact 6 t = owns (c : Thread nD τ) (st6 t) fullShare (iblk m c 6 t) := by
  rw [← aft6 m c t]
theorem leaves7 (c : Dev nD) (t : Fin cfg0.N) : (dats m 0 c).leavesExact 7 t = owns (c : Thread nD τ) (st7 t) fullShare (iblk m c 7 t) := by
  rw [← aft7 m c t]
theorem leaves8 (c : Dev nD) (t : Fin cfg0.N) : (dats m 0 c).leavesExact 8 t = owns (c : Thread nD τ) (st8 t) fullShare (iblk m c 8 t) := by
  rw [← aft8 m c t]
theorem leaves9 (c : Dev nD) (t : Fin cfg0.N) : (dats m 0 c).leavesExact 9 t = owns (c : Thread nD τ) (st9 t) fullShare (iblk m c 9 t) := by
  rw [← aft9 m c t]
theorem leaves10 (c : Dev nD) (t : Fin cfg0.N) : (dats m 0 c).leavesExact 10 t = owns (c : Thread nD τ) (st10 t) fullShare (iblk m c 10 t) := by
  rw [← aft10 m c t]
theorem leaves11 (c : Dev nD) (t : Fin cfg0.N) : (dats m 0 c).leavesExact 11 t = owns (c : Thread nD τ) (st11 t) fullShare (iblk m c 11 t) := by
  rw [← aft11 m c t]

/-! ## The body at a point -/

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d)))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 4000000 in
/-- The first point. -/
theorem first_point (c : Dev nD) (t : Fin cfg0.N) (hz : t.val = 0) :
    pre m c t ⊢ wp frame (wpE (defs₀ (F := F)) Variants.none c none) Set.univ (bodyAt0 t) (fun _ => post m c t) := by
  have h6 : t.val ≠ 6 := by omega
  unfold pre post bodyAt0
  simp only [bef0, bef1, bef2, bef3, bef4, bef5, bef6, bef7, bef8, bef9, bef10, bef11, leaves0, leaves1, leaves2, leaves3, leaves4, leaves5, leaves6, leaves7, leaves8, leaves9, leaves10, leaves11]
  rw [show (dats m 0 c).owesAt () t.succ = (dats m 0 c).owesAt () t.castSucc from rfl]
  rw [show (dats m 0 c).Φ t.succ = Inv m c (t.val + 1) t.isLt from rfl, Inv_succ, Inv_castSucc m c t]
  rw [Dat.leavesExact_idle (dats m 0 c) 12 t (idle12 t h6) (keep12 t h6)]
  rw [Dat.leavesExact_idle (dats m 0 c) 13 t (idle13 t h6) (keep13 t h6)]
  rw [Dat.leavesExact_idle (dats m 0 c) 14 t (idle14 t h6) (keep14 t h6)]
  rw [Inv_zero m c _ _ hz, scratch_eq, accAt_first m c t hz]
  iintro ⟨⟨⟨HA, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (firstRun c (grid0.coords t) _ _ _ _ _ _ _ _ _ _ _ _ _ _ _ _ _ _ _ _ _ _ _ _ _ _ _ _ _ _ _ _ _ _ ((isFirst_iff t).mpr hz) (fun h => by have := (isMiddle_iff t).mp h; omega) (fun h => by have := (isLast_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HA]; · iexact HA
  isplitl [HH]; · iexact HH
  iintro ⟨H0, H1, H2, H3, H4, H5, H6, H7, H8, H9, H10, H11, H12, H13, H14, HA, HH⟩
  isplitl [HA HH Hg]
  · isplitl [HA HH]
    · isplitl [HA]; · iexact HA
      iexact HH
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iexists _; iexact H14

set_option maxHeartbeats 4000000 in
/-- A middle point. -/
theorem middle_point (c : Dev nD) (t : Fin cfg0.N) (hz : t.val ≠ 0) (h6 : t.val ≠ 6) :
    pre m c t ⊢ wp frame (wpE (defs₀ (F := F)) Variants.none c none) Set.univ (bodyAt0 t) (fun _ => post m c t) := by
  have hN := pt_lt t
  unfold pre post bodyAt0
  simp only [bef0, bef1, bef2, bef3, bef4, bef5, bef6, bef7, bef8, bef9, bef10, bef11, leaves0, leaves1, leaves2, leaves3, leaves4, leaves5, leaves6, leaves7, leaves8, leaves9, leaves10, leaves11]
  rw [show (dats m 0 c).owesAt () t.succ = (dats m 0 c).owesAt () t.castSucc from rfl]
  rw [show (dats m 0 c).Φ t.succ = Inv m c (t.val + 1) t.isLt from rfl, Inv_succ, Inv_castSucc m c t]
  rw [Dat.leavesExact_idle (dats m 0 c) 12 t (idle12 t h6) (keep12 t h6)]
  rw [Dat.leavesExact_idle (dats m 0 c) 13 t (idle13 t h6) (keep13 t h6)]
  rw [Dat.leavesExact_idle (dats m 0 c) 14 t (idle14 t h6) (keep14 t h6)]
  rw [Inv_pos m c _ _ hz, accAt_middle m c t hz h6]
  iintro ⟨⟨⟨HA, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (middleRun c (grid0.coords t) _ _ _ _ _ _ _ _ _ _ _ _ _ _ _ _ _ _ _ _ _ _ _ _ _ _ _ _ _ _ _ _ _ _ (fun h => hz ((isFirst_iff t).mp h)) ((isMiddle_iff t).mpr (by omega)) (fun h => h6 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (accAt m c (t.val - 1) (by have := t.isLt; omega)) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HA]; · iexact HA
  isplitl [HH]; · iexact HH
  iintro ⟨H0, H1, H2, H3, H4, H5, H6, H7, H8, H9, H10, H11, H12, H13, H14, HA, HH⟩
  isplitl [HA HH Hg]
  · isplitl [HA HH]
    · isplitl [HA]; · iexact HA
      iexact HH
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iexists _; iexact H14

set_option maxHeartbeats 4000000 in
/-- The last point. -/
theorem last_point (c : Dev nD) (t : Fin cfg0.N) (h6 : t.val = 6) :
    pre m c t ⊢ wp frame (wpE (defs₀ (F := F)) Variants.none c none) Set.univ (bodyAt0 t) (fun _ => post m c t) := by
  have hz : t.val ≠ 0 := by omega
  unfold pre post bodyAt0
  simp only [bef0, bef1, bef2, bef3, bef4, bef5, bef6, bef7, bef8, bef9, bef10, bef11, leaves0, leaves1, leaves2, leaves3, leaves4, leaves5, leaves6, leaves7, leaves8, leaves9, leaves10, leaves11]
  rw [show (dats m 0 c).owesAt () t.succ = (dats m 0 c).owesAt () t.castSucc from rfl]
  rw [show (dats m 0 c).Φ t.succ = Inv m c (t.val + 1) t.isLt from rfl, Inv_succ, Inv_castSucc m c t]
  rw [show (dats m 0 c).leavesExact 12 t = owns (c : Thread nD τ) (st12 t) fullShare ((dats m 0 c).after 12 t) from by
      unfold Dat.leavesExact; rw [live12 t h6], aft12]
  rw [show (dats m 0 c).leavesExact 13 t = owns (c : Thread nD τ) (st13 t) fullShare ((dats m 0 c).after 13 t) from by
      unfold Dat.leavesExact; rw [live13 t h6], aft13]
  rw [show (dats m 0 c).leavesExact 14 t = owns (c : Thread nD τ) (st14 t) fullShare ((dats m 0 c).after 14 t) from by
      unfold Dat.leavesExact; rw [live14 t h6], aft14]
  rw [Inv_pos m c _ _ hz, accAt_last m c t hz h6]
  iintro ⟨⟨⟨HA, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (lastRun c (grid0.coords t) _ _ _ _ _ _ _ _ _ _ _ _ _ _ _ _ _ _ _ _ _ _ _ _ _ _ _ _ _ _ _ _ _ _ (fun h => hz ((isFirst_iff t).mp h)) (fun h => by have := (isMiddle_iff t).mp h; omega) ((isLast_iff t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (accAt m c (t.val - 1) (by have := t.isLt; omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [HA]; · iexact HA
  isplitl [HH]; · iexact HH
  iintro ⟨H0, H1, H2, H3, H4, H5, H6, H7, H8, H9, H10, H11, H12, H13, H14, HA, HH⟩
  isplitl [HA HH Hg]
  · isplitl [HA HH]
    · isplitl [HA]; · iexact HA
      iexists _; iexact HH
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at any point. -/
theorem any_point (c : Dev nD) (t : Fin cfg0.N) :
    pre m c t ⊢ wp frame (wpE (defs₀ (F := F)) Variants.none c none) Set.univ (bodyAt0 t) (fun _ => post m c t) := by
  by_cases hz : t.val = 0
  · exact first_point m c t hz
  · by_cases h6 : t.val = 6
    · exact last_point m c t h6
    · exact middle_point m c t hz h6

/-- The body table's row at a point is the body there. -/
theorem row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row]
  exact triple_restated (any_point m c t) rfl .rfl fun _ => .rfl

theorem enter (c : Dev nD) : Pipeline.ΦA spec0 c ⊢ (dats m 0 c).Φ 0 := by
  rw [show (dats m 0 c).Φ 0 = Inv m c 0 (Nat.zero_le _) from rfl, Inv_zero m c 0 _ rfl]

theorem leave (c : Dev nD) : (dats m 0 c).Φ (Fin.last cfg0.N) ⊢ Pipeline.ΦA spec0 c := by
  rw [show (dats m 0 c).Φ (Fin.last cfg0.N) = Inv m c cfg0.N le_rfl from rfl,
    Inv_pos m c _ _ (by rw [show cfg0.N = 7 from N_0]; decide), scratch_eq]
  iintro ⟨⟨HA, HH⟩, Hg⟩
  isplitl [HA HH]
  · isplitl [HA]
    · iexists _; iexact HA
    iexact HH
  iexact Hg

/-! ## The run and the frame -/

set_option backward.isDefEq.respectTransparency.types false in
set_option maxHeartbeats 800000 in
/-- Every run of the program ends with the arrays as the proof data and the lines after the region leave them, and every semaphore at zero. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- The frame: the argument arrays end unchanged and every semaphore at zero. -/
theorem frameRun : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run m ρ)) ((θ_run defs _ _).mono (fun _ h => h.2) (run_quiet m ρ))

end Cert.KernelIdeal.Hand

end
-- ==== Proof.Norm.lean ====
/- Normalisation of one column over the rows, two ways, and that they agree on real numbers. -/
module

public import Idealize.ShloMosaic.PureOps.Ideal
public import Idealize.ShloMosaic.Lib.Pointwise

@[expose] public section

set_option maxRecDepth 16384

noncomputable section

namespace Cert.Norm

open Idealize.ShloMosaic

/-- The word 2^-10, -/
def recip : EReal := Ideal.ofBits .f32 0x3A800000#32
/-- the word 1024, -/
def rows : EReal := Ideal.ofBits .f32 0x44800000#32
/-- and the word next to 1/1000 that is added to a variance. -/
def eps : EReal := Ideal.ofBits .f32 0x3A83126F#32

/-- The real number the last of these is. -/
def epsR : ℝ := 8589935 / 8589934592

theorem recip_eq : recip = ((1 / 1024 : ℝ) : EReal) := by
  unfold recip
  simp [Ideal.ofBits, Ideal.ieee, -EReal.coe_mul]; norm_num
theorem rows_eq : rows = ((1024 : ℝ) : EReal) := by
  unfold rows
  simp [Ideal.ofBits, Ideal.ieee, -EReal.coe_mul]; norm_num
theorem eps_eq : eps = (epsR : EReal) := by
  unfold eps epsR
  simp [Ideal.ofBits, Ideal.ieee, -EReal.coe_mul]; norm_num
theorem epsR_pos : 0 < epsR := by unfold epsR; norm_num

/-! ## The two ways -/

/-- The mean as the kernel takes it, -/
def mean (u : Fin 1024 → EReal) : EReal := (∑ i, u i) * recip
/-- the scale it multiplies by, the variance being the mean square less the squared mean, -/
def scale (u : Fin 1024 → EReal) (g : EReal) : EReal :=
  g * Ideal.rsqrt ((∑ i, u i * u i) * recip - mean u * mean u + eps)
/-- and one entry: scaled, shifted, cut off below at zero. -/
def act (u : Fin 1024 → EReal) (g be : EReal) (i : Fin 1024) : EReal :=
  max (u i * scale u g + (be - mean u * scale u g)) 0

/-- The mean as the reference takes it, of the column with its bias, -/
def refMean (y : Fin 1024 → EReal) : EReal := Ideal.div (∑ i, y i) rows
/-- the variance, the mean of the squared deviations, -/
def refVar (y : Fin 1024 → EReal) : EReal := Ideal.div (∑ i, (y i - refMean y) * (y i - refMean y)) rows
/-- and one entry. -/
def refAct (y : Fin 1024 → EReal) (g be : EReal) (i : Fin 1024) : EReal :=
  max (Ideal.div (g * (y i - refMean y)) (Ideal.sqrt (refVar y + eps)) + be) 0

/-! ## Over the real numbers -/

/-- A finite sum of real numbers, seen in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

section Real
variable (x : Fin 1024 → ℝ) (b g : ℝ)

/-- The real mean, -/
def meanR : ℝ := (∑ i, x i) * (1 / 1024)
/-- variance, -/
def varR : ℝ := (∑ i, x i * x i) * (1 / 1024) - meanR x * meanR x
/-- and scale. -/
def scaleR : ℝ := g * (Real.sqrt (varR x + epsR))⁻¹

/-- The mean square less the squared mean is the mean of the squared deviations. -/
theorem varR_eq : varR x = (∑ i, (x i - meanR x) * (x i - meanR x)) * (1 / 1024) := by
  have h : ∀ i, (x i - meanR x) * (x i - meanR x) = x i * x i - 2 * meanR x * x i + meanR x * meanR x := fun i => by ring
  have hm : ∑ i, x i = 1024 * meanR x := by unfold meanR; ring
  rw [Finset.sum_congr rfl fun i _ => h i, Finset.sum_add_distrib, Finset.sum_sub_distrib, ← Finset.mul_sum, hm,
    Finset.sum_const, Finset.card_univ, Fintype.card_fin, nsmul_eq_mul]
  unfold varR
  push_cast
  ring

theorem varR_nonneg : 0 ≤ varR x := by
  rw [varR_eq]
  exact mul_nonneg (Finset.sum_nonneg fun i _ => mul_self_nonneg _) (by norm_num)

theorem mean_coe : mean (fun i => (x i : EReal)) = (meanR x : EReal) := by
  unfold mean meanR
  rw [coe_sum, recip_eq, EReal.coe_mul]

theorem scale_coe : scale (fun i => (x i : EReal)) (g : EReal) = (scaleR x g : EReal) := by
  have h : (∑ i, (x i : EReal) * (x i : EReal)) * recip - mean (fun i => (x i : EReal)) * mean (fun i => (x i : EReal)) + eps
      = ((varR x + epsR : ℝ) : EReal) := by
    rw [mean_coe, Finset.sum_congr rfl fun i _ => (EReal.coe_mul (x i) (x i)).symm, coe_sum, recip_eq, eps_eq]
    unfold varR
    rw [EReal.coe_add, EReal.coe_sub, EReal.coe_mul, EReal.coe_mul]
  have hp : 0 < varR x + epsR := add_pos_of_nonneg_of_pos (varR_nonneg x) epsR_pos
  unfold scale
  rw [h, Ideal.rsqrt_coe, if_neg (not_lt.mpr hp.le), if_neg hp.ne', ← EReal.coe_mul]
  rfl

/-- A bias moves the mean by itself, -/
theorem meanR_bias : meanR (fun i => x i + b) = meanR x + b := by
  unfold meanR
  rw [Finset.sum_add_distrib, Finset.sum_const, Finset.card_univ, Fintype.card_fin, nsmul_eq_mul]
  push_cast
  ring

/-- and leaves the variance. -/
theorem varR_bias : varR (fun i => x i + b) = varR x := by
  rw [varR_eq, varR_eq, meanR_bias]
  exact congrArg (· * (1 / 1024 : ℝ)) (Finset.sum_congr rfl fun i _ => by ring)

theorem refMean_coe : refMean (fun i => (x i : EReal)) = (meanR x : EReal) := by
  unfold refMean meanR
  rw [coe_sum, rows_eq, Ideal.div_coe (by norm_num), EReal.coe_mul]

theorem refVar_coe : refVar (fun i => (x i : EReal)) = (varR x : EReal) := by
  unfold refVar
  rw [refMean_coe, Finset.sum_congr rfl fun i _ => show ((x i : EReal) - (meanR x : EReal)) * ((x i : EReal) - (meanR x : EReal))
    = (((x i - meanR x) * (x i - meanR x) : ℝ) : EReal) by rw [EReal.coe_mul, EReal.coe_sub], coe_sum, rows_eq,
    Ideal.div_coe (by norm_num), varR_eq, EReal.coe_mul]

/-- A real number plus a difference whose second term is real may be added in the other order. -/
theorem shift_swap (a c : ℝ) (be : EReal) : (a : EReal) + (be - (c : EReal)) = ((a - c : ℝ) : EReal) + be := by
  induction be with
  | bot => simp
  | top => rw [EReal.top_sub_coe, EReal.coe_add_top, EReal.coe_add_top]
  | coe r => rw [← EReal.coe_sub, ← EReal.coe_add, ← EReal.coe_add]; congr 1; ring

end Real

/-- The two normalisations agree on a real column with a real bias and scale, whatever the shift. -/
theorem act_eq (u : Fin 1024 → EReal) (b g be : EReal) (hu : ∀ i, ∃ x : ℝ, u i = x) (hb : ∃ x : ℝ, b = x) (hg : ∃ x : ℝ, g = x) (i : Fin 1024) :
    act u g be i = refAct (fun i => u i + b) g be i := by
  choose x hx using hu
  obtain ⟨b, rfl⟩ := hb
  obtain ⟨g, rfl⟩ := hg
  obtain rfl : u = fun i => (x i : EReal) := funext hx
  have hp : 0 < varR x + epsR := add_pos_of_nonneg_of_pos (varR_nonneg x) epsR_pos
  have hq : Real.sqrt (varR x + epsR) ≠ 0 := (Real.sqrt_pos.mpr hp).ne'
  have hy : (fun i => (x i : EReal) + (b : EReal)) = fun i => ((x i + b : ℝ) : EReal) := funext fun i => (EReal.coe_add _ _).symm
  unfold act refAct
  refine congrArg (fun z => max z 0) ?_
  rw [hy, scale_coe, mean_coe, refVar_coe (fun i => x i + b), refMean_coe (fun i => x i + b), varR_bias, meanR_bias, eps_eq, ← EReal.coe_add,
    Ideal.sqrt_coe, if_neg (not_lt.mpr hp.le), Ideal.div_coe hq, ← EReal.coe_mul, ← EReal.coe_mul, shift_swap, ← EReal.coe_sub, ← EReal.coe_mul, ← EReal.coe_mul]
  refine congrArg (fun z : ℝ => (z : EReal) + be) ?_
  unfold scaleR
  rw [one_div]
  ring

/-- With a real shift the result is real. -/
theorem act_real (u : Fin 1024 → EReal) (g be : EReal) (hu : ∀ i, ∃ x : ℝ, u i = x) (hg : ∃ x : ℝ, g = x) (hbe : ∃ x : ℝ, be = x) (i : Fin 1024) :
    ∃ x : ℝ, act u g be i = x := by
  choose x hx using hu
  obtain ⟨g, rfl⟩ := hg
  obtain ⟨be, rfl⟩ := hbe
  obtain rfl : u = fun i => (x i : EReal) := funext hx
  unfold act
  rw [scale_coe, mean_coe, ← EReal.coe_mul, ← EReal.coe_mul, ← EReal.coe_sub, ← EReal.coe_add]
  rcases max_choice ((x i * scaleR x g + (be - meanR x * scaleR x g) : ℝ) : EReal) 0 with h | h
  · exact ⟨_, h⟩
  · exact ⟨0, h.trans EReal.coe_zero.symm⟩

/-- A finite sum of products of real numbers is real. -/
theorem sum_mul_real {n : ℕ} (f h : Fin n → EReal) (hf : ∀ k, ∃ x : ℝ, f k = x) (hh : ∀ k, ∃ x : ℝ, h k = x) :
    ∃ x : ℝ, ∑ k, f k * h k = x := by
  choose x hx using hf
  choose y hy using hh
  refine ⟨∑ k, x k * y k, ?_⟩
  rw [← coe_sum]
  exact Finset.sum_congr rfl fun k _ => by rw [hx, hy, EReal.coe_mul]

/-! ## Class probabilities -/

/-- The exponentials of a family less its largest member, divided by their sum. -/
def soft (f : Fin 81 → EReal) (c : Fin 81) : EReal :=
  Ideal.div (Ideal.exp (f c - Finset.univ.fold max (Ideal.ofBits .f32 0xFF800000#32) f))
    (∑ k, Ideal.exp (f k - Finset.univ.fold max (Ideal.ofBits .f32 0xFF800000#32) f))

end Cert.Norm

end
-- ==== Proof.AVals.lean ====
/- The body's stored values at an index, at the extended reals. -/
module

public import proofs.«01_k».proof.Proof.ILast
public import proofs.«01_k».proof.Proof.Norm
public import proofs.«01_k».proof.Proof.Norm
public import proofs.«01_k».proof.Proof.Norm
public import proofs.«01_k».proof.Proof.Norm

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- One block's contribution to one entry of the first layer's product. -/
def part (A : Vec Ideal S1x7x512x256 .f32) (W : Vec Ideal S1792x1024 .f32) (r : Fin 512) (j : Fin 1024) : EReal :=
  ∑ w : Fin 7, ∑ q : Fin 256, A (ix4 0 w r q) * W (ix2 ⟨256 * w.val + q.val, by omega⟩ j)

theorem pay14_apply (W : Vec Ideal S1792x1024 .f32) (A : Vec Ideal S1x7x512x256 .f32) (r : Fin 512) (j : Fin 1024) :
    k0_pay14 W A (ix2 r j) = part A W r j := by
  unfold part
  rw [Fin.sum_univ_seven]
  pointwise [k0_pay14]

theorem pay18_eq (W : Vec Ideal S1792x1024 .f32) (B : Vec Ideal S1x7x512x256 .f32) :
    k0_pay18 W (k0_pay15 B) (k0_pay16 B) (k0_pay17 W) = k0_pay14 W B := rfl

theorem pay8_apply (v x : Vec Ideal S512x1024 .f32) (r : Fin 512) (j : Fin 1024) :
    k0_pay8 v x (ix2 r j) = x (ix2 r j) + v (ix2 r j) := by
  pointwise [k0_pay8, k0_pay6]
theorem pay9_apply (v x : Vec Ideal S512x1024 .f32) (r : Fin 512) (j : Fin 1024) :
    k0_pay9 v x (ix2 r j) = x (ix2 r j) + v (ix2 r j) := by
  pointwise [k0_pay9, k0_pay7]
theorem pay19_apply (v : Vec Ideal S512x1024 .f32) (r : Fin 512) (j : Fin 1024) :
    k0_pay19 (F := Ideal) v (ix2 r j) = v (ix2 r j) := by
  pointwise [k0_pay19]
theorem pay20_eq (W : Vec Ideal S1792x1024 .f32) (B : Vec Ideal S1x7x512x256 .f32) :
    k0_pay20 W (k0_pay15 B) (k0_pay16 B) (k0_pay17 W) = k0_pay19 (k0_pay14 W B) := rfl
theorem pay21_apply (v x : Vec Ideal S512x1024 .f32) (r : Fin 512) (j : Fin 1024) :
    k0_pay21 v x (ix2 r j) = x (ix2 r j) + v (ix2 r j) := by
  pointwise [k0_pay21]
theorem pay22_eq (W : Vec Ideal S1792x1024 .f32) (B : Vec Ideal S1x7x512x256 .f32) (x : Vec Ideal S512x1024 .f32) :
    k0_pay22 W (k0_pay15 B) (k0_pay16 B) (k0_pay17 W) x = k0_pay21 (k0_pay14 W B) x := rfl

/-! ## Halves -/

theorem half_stack_zero (T B : Vec Ideal S512x1024 .f32) : half (stack T B) 0 = T := by
  funext y
  idx_vars y
  unfold half stack
  exact (dif_pos (show 512 * 0 + y0.val < 512 by omega)).trans
    (congrArg T (congrArg (ix2 · y1) (Fin.ext (show 512 * 0 + y0.val = y0.val by omega))))
theorem half_stack_one (T B : Vec Ideal S512x1024 .f32) : half (stack T B) 1 = B := by
  funext y
  idx_vars y
  unfold half stack
  exact (dif_neg (show ¬ 512 * 1 + y0.val < 512 by omega)).trans
    (congrArg B (congrArg (ix2 · y1) (Fin.ext (show 512 * 1 + y0.val - 512 = y0.val by omega))))

theorem stack_top (T B : Vec Ideal S512x1024 .f32) (i j : Fin 1024) (h : i.val < 512) : stack T B (ix2 i j) = T (ix2 ⟨i.val, h⟩ j) := dif_pos h
theorem stack_bot (T B : Vec Ideal S512x1024 .f32) (i j : Fin 1024) (h : ¬ i.val < 512) :
    stack T B (ix2 i j) = B (ix2 ⟨i.val - 512, by omega⟩ j) := dif_neg h
theorem half_top (X : Vec Ideal S1024x1024 .f32) (i j : Fin 1024) (h : i.val < 512) : half X 0 (ix2 ⟨i.val, h⟩ j) = X (ix2 i j) :=
  congrArg X (congrArg (ix2 · j) (Fin.ext (show 512 * 0 + i.val = i.val by omega)))
theorem half_bot (X : Vec Ideal S1024x1024 .f32) (i j : Fin 1024) (h : ¬ i.val < 512) :
    half X 1 (ix2 ⟨i.val - 512, by omega⟩ j) = X (ix2 i j) :=
  congrArg X (congrArg (ix2 · j) (Fin.ext (show 512 * 1 + (i.val - 512) = i.val by omega)))

/-- A sum over the rows of a matrix is the sum over its upper half and the sum over its lower half. -/
theorem sum_halves (X : Vec Ideal S1024x1024 .f32) (f : EReal → EReal) (j : Fin 1024) :
    ∑ i : Fin 1024, f (X (ix2 i j)) = ∑ r : Fin 512, f (half X 0 (ix2 r j)) + ∑ r : Fin 512, f (half X 1 (ix2 r j)) := by
  rw [Fin.sum_univ_two_halves 512 512 rfl fun i => f (X (ix2 i j))]
  refine congrArg₂ (· + ·) (Finset.sum_congr rfl fun r _ => congrArg f (congrArg X (congrArg (ix2 · j) (Fin.ext ?_))))
    (Finset.sum_congr rfl fun r _ => congrArg f (congrArg X (congrArg (ix2 · j) (Fin.ext ?_))))
  · show r.val = 512 * 0 + r.val; omega
  · show 512 + r.val = 512 * 1 + r.val; omega

/-! ## The accumulator -/

/-- One entry of a point's contribution: the upper rows are the first operand's, the lower the second's. -/
def partAt (A B : Vec Ideal S1x7x512x256 .f32) (W : Vec Ideal S1792x1024 .f32) (i j : Fin 1024) : EReal :=
  if h : i.val < 512 then part A W ⟨i.val, h⟩ j else part B W ⟨i.val - 512, by omega⟩ j

theorem accFirst_apply (A B : Vec Ideal S1x7x512x256 .f32) (W : Vec Ideal S1792x1024 .f32) (i j : Fin 1024) :
    accFirst A B W (ix2 i j) = partAt A B W i j := by
  unfold accFirst partAt
  by_cases h : i.val < 512
  · rw [stack_top _ _ i j h, dif_pos h, pay19_apply, pay14_apply]
  · rw [stack_bot _ _ i j h, dif_neg h, pay20_eq, pay19_apply, pay14_apply]

/-- The later points add their contribution to what the accumulator held. -/
theorem accMiddle_apply (A B : Vec Ideal S1x7x512x256 .f32) (W : Vec Ideal S1792x1024 .f32) (X : Vec Ideal S1024x1024 .f32) (i j : Fin 1024) :
    accMiddle A B W X (ix2 i j) = X (ix2 i j) + partAt A B W i j := by
  unfold accMiddle partAt
  by_cases h : i.val < 512
  · rw [stack_top _ _ i j h, dif_pos h, pay21_apply, pay14_apply, half_top X i j h]
  · rw [stack_bot _ _ i j h, dif_neg h, pay22_eq, pay21_apply, pay14_apply, half_bot X i j h]

theorem accLast_eq (A B : Vec Ideal S1x7x512x256 .f32) (W : Vec Ideal S1792x1024 .f32) (X : Vec Ideal S1024x1024 .f32) :
    accLast A B W X = accMiddle A B W X := by
  have h8 : ∀ v x : Vec Ideal S512x1024 .f32, k0_pay8 v x = k0_pay21 v x := fun v x => by
    funext y
    idx_vars y
    rw [pay8_apply, pay21_apply]
  have h9 : ∀ v x : Vec Ideal S512x1024 .f32, k0_pay9 v x = k0_pay21 v x := fun v x => by
    funext y
    idx_vars y
    rw [pay9_apply, pay21_apply]
  unfold accLast accMiddle
  rw [pay18_eq, pay22_eq, h8, h9]

/-! ## The first normalisation -/

/-- The column `j` of a matrix. -/
def col (X : Vec Ideal S1024x1024 .f32) (j : Fin 1024) (i : Fin 1024) : EReal := X (ix2 i j)

theorem pay10_apply (v w x y : Vec Ideal S512x1024 .f32) (j : Fin 1024) :
    k0_pay10 v w x y (ix2 0 j) = Norm.mean (col (stack (k0_pay8 v x) (k0_pay9 w y)) j) := by
  unfold Norm.mean col
  rw [sum_halves _ (fun z => z), half_stack_zero, half_stack_one]
  pointwise [k0_pay10, k0_pay6, k0_pay7, k0_pay8, k0_pay9]
  rfl

theorem pay11_apply (v w x y : Vec Ideal S512x1024 .f32) (g : Vec Ideal S1x1024 .f32) (j : Fin 1024) :
    k0_pay11 v w x y g (ix2 0 j) = Norm.scale (col (stack (k0_pay8 v x) (k0_pay9 w y)) j) (g (ix2 0 j)) := by
  unfold Norm.scale
  rw [← pay10_apply]
  unfold col
  rw [sum_halves _ (fun z => z * z), half_stack_zero, half_stack_one]
  pointwise [k0_pay11, k0_pay10, k0_pay6, k0_pay7, k0_pay8, k0_pay9]
  rfl

theorem pay13_apply (v w x y : Vec Ideal S512x1024 .f32) (g : Vec Ideal S1x1024 .f32) (j : Fin 1024) :
    k0_pay13 v w x y g (ix2 0 j) = k0_pay10 v w x y (ix2 0 j) * k0_pay11 v w x y g (ix2 0 j) := by
  pointwise [k0_pay13]
theorem pay12_apply (be : Vec Ideal S1x1024 .f32) (j : Fin 1024) : k0_pay12 be (ix2 0 j) = be (ix2 0 j) := by
  pointwise [k0_pay12]

/-! ## The second layer -/

theorem pay24_apply (sc be ms : FVec Ideal S1x1024 .f32) (X : Vec Ideal S512x1024 .f32) (W : Vec Ideal S1024x1024 .f32) (r : Fin 512) (j : Fin 1024) :
    k0_pay24 sc be ms X W (ix2 r j) = ∑ k, max (X (ix2 r k) * sc (ix2 0 k) + (be (ix2 0 k) - ms (ix2 0 k))) 0 * W (ix2 k j) := by
  pointwise [k0_pay24, k0_pay23]
theorem pay25_apply (sc be ms s : FVec Ideal S1x1024 .f32) (X : Vec Ideal S512x1024 .f32) (W : Vec Ideal S1024x1024 .f32) (j : Fin 1024) :
    k0_pay25 sc be ms s X W (ix2 0 j) = s (ix2 0 j) + ∑ r : Fin 512, k0_pay24 sc be ms X W (ix2 r j) := by
  pointwise [k0_pay24, k0_pay25]
theorem pay26_apply (sc be ms s : FVec Ideal S1x1024 .f32) (X : Vec Ideal S512x1024 .f32) (W : Vec Ideal S1024x1024 .f32) (j : Fin 1024) :
    k0_pay26 sc be ms s X W (ix2 0 j) = s (ix2 0 j) + ∑ r : Fin 512, k0_pay24 sc be ms X W (ix2 r j) * k0_pay24 sc be ms X W (ix2 r j) := by
  pointwise [k0_pay24, k0_pay26]
theorem pay5_apply (j : Fin 1024) : k0_pay5 (F := Ideal) (ix2 0 j) = 0 := by
  pointwise [k0_pay5]

theorem hidden_apply (sc be ms : FVec Ideal S1x1024 .f32) (X W : Vec Ideal S1024x1024 .f32) (i j : Fin 1024) :
    hidden sc be ms X W (ix2 i j) = ∑ k, max (X (ix2 i k) * sc (ix2 0 k) + (be (ix2 0 k) - ms (ix2 0 k))) 0 * W (ix2 k j) := by
  unfold hidden
  by_cases h : i.val < 512
  · rw [stack_top _ _ i j h, pay24_apply]
    exact Finset.sum_congr rfl fun k _ => by rw [half_top X i k h]
  · rw [stack_bot _ _ i j h, pay24_apply]
    exact Finset.sum_congr rfl fun k _ => by rw [half_bot X i k h]

/-- The sums the first loop carries are the column sums of what it stores, -/
theorem sums_apply (sc be ms : FVec Ideal S1x1024 .f32) (X W : Vec Ideal S1024x1024 .f32) (j : Fin 1024) :
    sums sc be ms (k0_pay5 (F := Ideal)) X W (ix2 0 j) = ∑ i, hidden sc be ms X W (ix2 i j) := by
  unfold sums hidden
  rw [sum_halves _ (fun z => z), half_stack_zero, half_stack_one, pay25_apply, pay25_apply, pay5_apply, zero_add]
/-- and likewise of their squares. -/
theorem squares_apply (sc be ms : FVec Ideal S1x1024 .f32) (X W : Vec Ideal S1024x1024 .f32) (j : Fin 1024) :
    squares sc be ms (k0_pay5 (F := Ideal)) X W (ix2 0 j) = ∑ i, hidden sc be ms X W (ix2 i j) * hidden sc be ms X W (ix2 i j) := by
  unfold squares hidden
  rw [sum_halves _ (fun z => z * z), half_stack_zero, half_stack_one, pay26_apply, pay26_apply, pay5_apply, zero_add]

theorem pay27_apply (s : Vec Ideal S1x1024 .f32) (j : Fin 1024) : k0_pay27 (F := Ideal) s (ix2 0 j) = s (ix2 0 j) * Norm.recip := by
  pointwise [k0_pay27]
  rfl
theorem pay28_apply (s ss g : Vec Ideal S1x1024 .f32) (j : Fin 1024) :
    k0_pay28 s ss g (ix2 0 j) = g (ix2 0 j) * Ideal.rsqrt (ss (ix2 0 j) * Norm.recip - s (ix2 0 j) * Norm.recip * (s (ix2 0 j) * Norm.recip) + Norm.eps) := by
  pointwise [k0_pay28, k0_pay27]
  rfl
theorem pay29_apply (s ss g be : Vec Ideal S1x1024 .f32) (j : Fin 1024) :
    k0_pay29 s ss g be (ix2 0 j) = be (ix2 0 j) - k0_pay27 s (ix2 0 j) * k0_pay28 s ss g (ix2 0 j) := by
  pointwise [k0_pay29]

/-! ## The three heads -/

theorem pay2_apply (sc sh : FVec Ideal S1x1024 .f32) (H : Vec Ideal S512x1024 .f32) (W : Vec Ideal S81x1024 .f32) (b : Vec Ideal S81x1 .f32) (c : Fin 81) (r : Fin 512) :
    k0_pay2 sc sh H W b (ix2 c r) = ∑ k, W (ix2 c k) * max (H (ix2 r k) * sc (ix2 0 k) + sh (ix2 0 k)) 0 + b (ix2 c 0) := by
  pointwise [k0_pay2, k0_pay1]
theorem pay4_apply (sc sh : FVec Ideal S1x1024 .f32) (H : Vec Ideal S512x1024 .f32) (W : Vec Ideal S324x1024 .f32) (b : Vec Ideal S324x1 .f32) (c : Fin 324) (r : Fin 512) :
    k0_pay4 sc sh H W b (ix2 c r) = ∑ k, W (ix2 c k) * max (H (ix2 r k) * sc (ix2 0 k) + sh (ix2 0 k)) 0 + b (ix2 c 0) := by
  pointwise [k0_pay4, k0_pay1]

theorem pay3_apply (sc sh : FVec Ideal S1x1024 .f32) (H : Vec Ideal S512x1024 .f32) (W : Vec Ideal S81x1024 .f32) (b : Vec Ideal S81x1 .f32) (c : Fin 81) (r : Fin 512) :
    k0_pay3 sc sh H W b (ix2 c r) = Norm.soft (fun k => k0_pay2 sc sh H W b (ix2 k r)) c := by
  unfold Norm.soft
  pointwise [k0_pay3]

/-! ## Everything the last point leaves, from the accumulator it completes -/

section
variable (x0 x1 : Vec Ideal S1x7x512x256 .f32) (x2 : Vec Ideal S1792x1024 .f32) (x3 x4 : Vec Ideal S1x1024 .f32)
  (x5 : Vec Ideal S1024x1024 .f32) (x6 x7 : Vec Ideal S1x1024 .f32) (x8 : Vec Ideal S81x1024 .f32) (x9 : Vec Ideal S81x1 .f32)
  (x10 : Vec Ideal S324x1024 .f32) (x11 : Vec Ideal S324x1 .f32) (xa : Vec Ideal S1024x1024 .f32)

theorem scale1_apply (k : Fin 1024) : scale1 x0 x1 x2 x3 xa (ix2 0 k) = Norm.scale (col (accLast x0 x1 x2 xa) k) (x3 (ix2 0 k)) :=
  pay11_apply _ _ _ _ _ _
theorem shift1_apply (k : Fin 1024) : shift1 x0 x1 x2 x3 xa (ix2 0 k)
    = Norm.mean (col (accLast x0 x1 x2 xa) k) * Norm.scale (col (accLast x0 x1 x2 xa) k) (x3 (ix2 0 k)) :=
  (pay13_apply _ _ _ _ _ _).trans (congrArg₂ (· * ·) (pay10_apply _ _ _ _ _) (pay11_apply _ _ _ _ _ _))

/-- The second layer's matrix is the product of the first layer's activations with the second weights. -/
theorem lastHidden_apply (i j : Fin 1024) : lastHidden x0 x1 x2 x3 x4 x5 xa (ix2 i j)
    = ∑ k, Norm.act (col (accLast x0 x1 x2 xa) k) (x3 (ix2 0 k)) (x4 (ix2 0 k)) i * x5 (ix2 k j) := by
  unfold lastHidden
  rw [hidden_apply]
  exact Finset.sum_congr rfl fun k _ => by rw [scale1_apply, shift1_apply, pay12_apply]; rfl

theorem lastSums_apply (j : Fin 1024) : lastSums x0 x1 x2 x3 x4 x5 xa (ix2 0 j) = ∑ i, col (lastHidden x0 x1 x2 x3 x4 x5 xa) j i := sums_apply _ _ _ _ _ _
theorem lastSquares_apply (j : Fin 1024) : lastSquares x0 x1 x2 x3 x4 x5 xa (ix2 0 j)
    = ∑ i, col (lastHidden x0 x1 x2 x3 x4 x5 xa) j i * col (lastHidden x0 x1 x2 x3 x4 x5 xa) j i := squares_apply _ _ _ _ _ _

theorem scale2_apply (k : Fin 1024) : scale2 x0 x1 x2 x3 x4 x5 x6 xa (ix2 0 k)
    = Norm.scale (col (lastHidden x0 x1 x2 x3 x4 x5 xa) k) (x6 (ix2 0 k)) := by
  unfold scale2 Norm.scale Norm.mean
  rw [pay28_apply, lastSums_apply, lastSquares_apply]
theorem shift2_apply (k : Fin 1024) : shift2 x0 x1 x2 x3 x4 x5 x6 x7 xa (ix2 0 k)
    = x7 (ix2 0 k) - Norm.mean (col (lastHidden x0 x1 x2 x3 x4 x5 xa) k) * Norm.scale (col (lastHidden x0 x1 x2 x3 x4 x5 xa) k) (x6 (ix2 0 k)) := by
  rw [← scale2_apply]
  unfold shift2 Norm.mean
  rw [pay29_apply, pay27_apply, lastSums_apply]
  rfl

/-- The second layer's activations. -/
def act2 (i k : Fin 1024) : EReal := Norm.act (col (lastHidden x0 x1 x2 x3 x4 x5 xa) k) (x6 (ix2 0 k)) (x7 (ix2 0 k)) i

theorem act2_eq (i k : Fin 1024) : max (lastHidden x0 x1 x2 x3 x4 x5 xa (ix2 i k) * scale2 x0 x1 x2 x3 x4 x5 x6 xa (ix2 0 k)
    + shift2 x0 x1 x2 x3 x4 x5 x6 x7 xa (ix2 0 k)) 0 = act2 x0 x1 x2 x3 x4 x5 x6 x7 xa i k := by
  rw [scale2_apply, shift2_apply]
  rfl

/-- A matrix of two halves of columns, each a function of the rows of a half of `H`, is that function of the rows of `H`. -/
theorem beside_apply {n : ℕ} (p : Vec Ideal S512x1024 .f32 → (⟨2, ![n, 512]⟩ : Shape).Idx → EReal) (q : (Fin 1024 → EReal) → Fin n → EReal)
    (hp : ∀ X c r, p X (ix2 c r) = q (fun k => X (ix2 r k)) c) (H : Vec Ideal S1024x1024 .f32) (c : Fin n) (i : Fin 1024) :
    beside (F := Ideal) (p (half H 0)) (p (half H 1)) (ix2 c i) = q (fun k => H (ix2 i k)) c := by
  by_cases h : i.val < 512
  · refine (dif_pos h).trans ((hp _ _ _).trans (congrArg (q · c) (funext fun k => half_top H i k h)))
  · refine (dif_neg h).trans ((hp _ _ _).trans (congrArg (q · c) (funext fun k => half_bot H i k h)))

/-- One entry of a head, of a row `h` of the second layer's matrix. -/
def headOf {n : ℕ} (sc sh : FVec Ideal S1x1024 .f32) (W : Vec Ideal ⟨2, ![n, 1024]⟩ .f32) (b : Vec Ideal ⟨2, ![n, 1]⟩ .f32) (h : Fin 1024 → EReal) (c : Fin n) : EReal :=
  ∑ k, W (ix2 c k) * max (h k * sc (ix2 0 k) + sh (ix2 0 k)) 0 + b (ix2 c 0)

theorem headOf_eq {n : ℕ} (W : Vec Ideal ⟨2, ![n, 1024]⟩ .f32) (b : Vec Ideal ⟨2, ![n, 1]⟩ .f32) (c : Fin n) (i : Fin 1024) :
    headOf (scale2 x0 x1 x2 x3 x4 x5 x6 xa) (shift2 x0 x1 x2 x3 x4 x5 x6 x7 xa) W b (fun k => lastHidden x0 x1 x2 x3 x4 x5 xa (ix2 i k)) c
      = ∑ k, W (ix2 c k) * act2 x0 x1 x2 x3 x4 x5 x6 x7 xa i k + b (ix2 c 0) :=
  congrArg (· + b (ix2 c 0)) (Finset.sum_congr rfl fun k _ => congrArg (W (ix2 c k) * ·) (act2_eq x0 x1 x2 x3 x4 x5 x6 x7 xa i k))

theorem lastLogits_apply (c : Fin 81) (i : Fin 1024) : lastLogits x0 x1 x2 x3 x4 x5 x6 x7 x8 x9 xa (ix2 c i)
    = ∑ k, x8 (ix2 c k) * act2 x0 x1 x2 x3 x4 x5 x6 x7 xa i k + x9 (ix2 c 0) := by
  exact (beside_apply (fun X => k0_pay2 _ _ X x8 x9) (headOf _ _ x8 x9) (fun X c r => pay2_apply _ _ X x8 x9 c r) _ c i).trans
    (headOf_eq x0 x1 x2 x3 x4 x5 x6 x7 xa x8 x9 c i)

theorem lastDeltas_apply (c : Fin 324) (i : Fin 1024) : lastDeltas x0 x1 x2 x3 x4 x5 x6 x7 x10 x11 xa (ix2 c i)
    = ∑ k, x10 (ix2 c k) * act2 x0 x1 x2 x3 x4 x5 x6 x7 xa i k + x11 (ix2 c 0) := by
  exact (beside_apply (fun X => k0_pay4 _ _ X x10 x11) (headOf _ _ x10 x11) (fun X c r => pay4_apply _ _ X x10 x11 c r) _ c i).trans
    (headOf_eq x0 x1 x2 x3 x4 x5 x6 x7 xa x10 x11 c i)

theorem lastProbs_apply (c : Fin 81) (i : Fin 1024) : lastProbs x0 x1 x2 x3 x4 x5 x6 x7 x8 x9 xa (ix2 c i)
    = Norm.soft (fun c => lastLogits x0 x1 x2 x3 x4 x5 x6 x7 x8 x9 xa (ix2 c i)) c := by
  refine (beside_apply (fun X => k0_pay3 _ _ X x8 x9) (fun h => Norm.soft (headOf _ _ x8 x9 h)) (fun X c r => (pay3_apply _ _ X x8 x9 c r).trans
    (congrArg (Norm.soft · c) (funext fun d => pay2_apply _ _ X x8 x9 d r))) _ c i).trans ?_
  refine congrArg (Norm.soft · c) (funext fun d => ?_)
  exact (headOf_eq x0 x1 x2 x3 x4 x5 x6 x7 xa x8 x9 d i).trans (lastLogits_apply x0 x1 x2 x3 x4 x5 x6 x7 x8 x9 xa d i).symm

end

end Cert.KernelIdeal.Hand

end
-- ==== Proof.ABlocks.lean ====
/- The operand blocks at an index, as entries of the argument arrays. -/
module

public import proofs.«01_k».proof.Proof.AVals
public import proofs.«01_k».proof.Proof.IRun
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ) (c : Dev nD) (t : Fin cfg0.N)

/-- Which block each window takes at a point: the point's number on the axis that is split, the first block on every other. -/
theorem idx : ∀ t : Fin cfg0.N, win0_0.index t = ![t.val, 0, 0, 0] ∧ win0_1.index t = ![t.val, 0, 0, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

theorem point_lt : t.val < 7 := t.isLt

/-! ## The host arrays the windows are taken of -/

theorem entry_v0 (k w : Fin 7) (r : Fin 512) (q : Fin 256) : V m c main_v0 (ix4 k w r q) = m ((c : Thread nD τ).loc main_arg0) (ix4 r k w q) := by
  have e : V m c main_v0 = transpose S7x7x512x256 [1, 2, 0, 3] (m ((c : Thread nD τ).loc main_arg0)) transposes_S512x7x7x256_S7x7x512x256_1_2_0_3 := by
    show StableHlo.after hostOps0 (fun b => m (c, b)) (Proc.devRef .tc main_v0) = _
    after_results_simp
  rw [e]; pointwise
theorem entry_v1 (k w : Fin 7) (r : Fin 512) (q : Fin 256) : V m c main_v1 (ix4 k w r q) = m ((c : Thread nD τ).loc main_arg1) (ix4 r k w q) := by
  have e : V m c main_v1 = transpose S7x7x512x256 [1, 2, 0, 3] (m ((c : Thread nD τ).loc main_arg1)) transposes_S512x7x7x256_S7x7x512x256_1_2_0_3 := by
    show StableHlo.after hostOps0 (fun b => m (c, b)) (Proc.devRef .tc main_v1) = _
    after_results_simp
  rw [e]; pointwise
theorem entry_v4 (k : Fin 1024) : V m c main_v4 (ix2 0 k) = m ((c : Thread nD τ).loc main_arg4) (ix1 k) := by
  have e : V m c main_v4 = shapeCast S1x1024 (m ((c : Thread nD τ).loc main_arg4)) shapeCasts_S1024_S1x1024 := by
    show StableHlo.after hostOps0 (fun b => m (c, b)) (Proc.devRef .tc main_v4) = _
    after_results_simp; rfl
  rw [e]; pointwise
theorem entry_v5 (k : Fin 1024) : V m c main_v5 (ix2 0 k) = m ((c : Thread nD τ).loc main_arg5) (ix1 k) := by
  have e : V m c main_v5 = shapeCast S1x1024 (m ((c : Thread nD τ).loc main_arg5)) shapeCasts_S1024_S1x1024 := by
    show StableHlo.after hostOps0 (fun b => m (c, b)) (Proc.devRef .tc main_v5) = _
    after_results_simp; rfl
  rw [e]; pointwise
theorem entry_v6 (k : Fin 1024) : V m c main_v6 (ix2 0 k) = m ((c : Thread nD τ).loc main_arg8) (ix1 k) := by
  have e : V m c main_v6 = shapeCast S1x1024 (m ((c : Thread nD τ).loc main_arg8)) shapeCasts_S1024_S1x1024 := by
    show StableHlo.after hostOps0 (fun b => m (c, b)) (Proc.devRef .tc main_v6) = _
    after_results_simp; rfl
  rw [e]; pointwise
theorem entry_v7 (k : Fin 1024) : V m c main_v7 (ix2 0 k) = m ((c : Thread nD τ).loc main_arg9) (ix1 k) := by
  have e : V m c main_v7 = shapeCast S1x1024 (m ((c : Thread nD τ).loc main_arg9)) shapeCasts_S1024_S1x1024 := by
    show StableHlo.after hostOps0 (fun b => m (c, b)) (Proc.devRef .tc main_v7) = _
    after_results_simp; rfl
  rw [e]; pointwise
theorem entry_v2 (d : Fin 81) (k : Fin 1024) : V m c main_v2 (ix2 d k) = m ((c : Thread nD τ).loc main_arg10) (ix2 k d) := by
  have e : V m c main_v2 = transpose S81x1024 [1, 0] (m ((c : Thread nD τ).loc main_arg10)) transposes_S1024x81_S81x1024_1_0 := by
    show StableHlo.after hostOps0 (fun b => m (c, b)) (Proc.devRef .tc main_v2) = _
    after_results_simp
  rw [e]; pointwise
theorem entry_v8 (d : Fin 81) : V m c main_v8 (ix2 d 0) = m ((c : Thread nD τ).loc main_arg11) (ix1 d) := by
  have e : V m c main_v8 = shapeCast S81x1 (m ((c : Thread nD τ).loc main_arg11)) shapeCasts_S81_S81x1 := by
    show StableHlo.after hostOps0 (fun b => m (c, b)) (Proc.devRef .tc main_v8) = _
    after_results_simp; rfl
  rw [e]; pointwise
theorem entry_v3 (d : Fin 324) (k : Fin 1024) : V m c main_v3 (ix2 d k) = m ((c : Thread nD τ).loc main_arg12) (ix2 k d) := by
  have e : V m c main_v3 = transpose S324x1024 [1, 0] (m ((c : Thread nD τ).loc main_arg12)) transposes_S1024x324_S324x1024_1_0 := by
    show StableHlo.after hostOps0 (fun b => m (c, b)) (Proc.devRef .tc main_v3) = _
    after_results_simp
  rw [e]; pointwise
theorem entry_v9 (d : Fin 324) : V m c main_v9 (ix2 d 0) = m ((c : Thread nD τ).loc main_arg13) (ix1 d) := by
  have e : V m c main_v9 = shapeCast S324x1 (m ((c : Thread nD τ).loc main_arg13)) shapeCasts_S324_S324x1 := by
    show StableHlo.after hostOps0 (fun b => m (c, b)) (Proc.devRef .tc main_v9) = _
    after_results_simp; rfl
  rw [e]; pointwise

/-! ## The blocks -/

theorem blkA (w : Fin 7) (r : Fin 512) (q : Fin 256) : iblk m c 0 t (ix4 0 w r q) = m ((c : Thread nD τ).loc main_arg0) (ix4 r ⟨t.val, point_lt t⟩ w q) :=
  Eq.trans (by blk_point [iblk, idx t] : iblk m c 0 t (ix4 0 w r q) = V m c main_v0 (ix4 ⟨t.val, point_lt t⟩ w r q)) (entry_v0 m c ⟨t.val, point_lt t⟩ w r q)
theorem blkB (w : Fin 7) (r : Fin 512) (q : Fin 256) : iblk m c 1 t (ix4 0 w r q) = m ((c : Thread nD τ).loc main_arg1) (ix4 r ⟨t.val, point_lt t⟩ w q) :=
  Eq.trans (by blk_point [iblk, idx t] : iblk m c 1 t (ix4 0 w r q) = V m c main_v1 (ix4 ⟨t.val, point_lt t⟩ w r q)) (entry_v1 m c ⟨t.val, point_lt t⟩ w r q)
theorem blk3 (k : Fin 1024) : iblk m c 3 t (ix2 0 k) = m ((c : Thread nD τ).loc main_arg4) (ix1 k) :=
  Eq.trans (by blk_point [iblk, idx t] : iblk m c 3 t (ix2 0 k) = V m c main_v4 (ix2 0 k)) (entry_v4 m c k)
theorem blk4 (k : Fin 1024) : iblk m c 4 t (ix2 0 k) = m ((c : Thread nD τ).loc main_arg5) (ix1 k) :=
  Eq.trans (by blk_point [iblk, idx t] : iblk m c 4 t (ix2 0 k) = V m c main_v5 (ix2 0 k)) (entry_v5 m c k)
theorem blk6 (k : Fin 1024) : iblk m c 6 t (ix2 0 k) = m ((c : Thread nD τ).loc main_arg8) (ix1 k) :=
  Eq.trans (by blk_point [iblk, idx t] : iblk m c 6 t (ix2 0 k) = V m c main_v6 (ix2 0 k)) (entry_v6 m c k)
theorem blk7 (k : Fin 1024) : iblk m c 7 t (ix2 0 k) = m ((c : Thread nD τ).loc main_arg9) (ix1 k) :=
  Eq.trans (by blk_point [iblk, idx t] : iblk m c 7 t (ix2 0 k) = V m c main_v7 (ix2 0 k)) (entry_v7 m c k)
theorem blk8 (d : Fin 81) (k : Fin 1024) : iblk m c 8 t (ix2 d k) = m ((c : Thread nD τ).loc main_arg10) (ix2 k d) :=
  Eq.trans (by blk_point [iblk, idx t] : iblk m c 8 t (ix2 d k) = V m c main_v2 (ix2 d k)) (entry_v2 m c d k)
theorem blk9 (d : Fin 81) : iblk m c 9 t (ix2 d 0) = m ((c : Thread nD τ).loc main_arg11) (ix1 d) :=
  Eq.trans (by blk_point [iblk, idx t] : iblk m c 9 t (ix2 d 0) = V m c main_v8 (ix2 d 0)) (entry_v8 m c d)
theorem blk10 (d : Fin 324) (k : Fin 1024) : iblk m c 10 t (ix2 d k) = m ((c : Thread nD τ).loc main_arg12) (ix2 k d) :=
  Eq.trans (by blk_point [iblk, idx t] : iblk m c 10 t (ix2 d k) = V m c main_v3 (ix2 d k)) (entry_v3 m c d k)
theorem blk11 (d : Fin 324) : iblk m c 11 t (ix2 d 0) = m ((c : Thread nD τ).loc main_arg13) (ix1 d) :=
  Eq.trans (by blk_point [iblk, idx t] : iblk m c 11 t (ix2 d 0) = V m c main_v9 (ix2 d 0)) (entry_v9 m c d)
/-- The two arrays no host operation touches. -/
theorem blkW (p : Fin 1792) (j : Fin 1024) : iblk m c 2 t (ix2 p j)
    = m ((c : Thread nD τ).loc main_arg2) (ix2 ⟨1792 * t.val + p.val, by have := point_lt t; omega⟩ j) := by
  blk_point [iblk, V, idx t]
theorem blk5 (i k : Fin 1024) : iblk m c 5 t (ix2 i k) = m ((c : Thread nD τ).loc main_arg6) (ix2 i k) := by
  blk_point [iblk, V, idx t]

end Cert.KernelIdeal.Hand

end
-- ==== Proof.RefVals.lean ====
/- The reference's results at an index, at the extended reals. -/
module

public import proofs.«01_k».proof.Proof.Gen.ReferenceIdeal.Read
public import proofs.«01_k».proof.Proof.Norm
public import Idealize.ShloMosaic.Lib.Pointwise

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Read

/-! ## One normalised layer, as the program writes it -/

/-- The column means, -/
def meanOf (Y : FVec Ideal S1024x1024 .f32) : FVec Ideal S1024 .f32 :=
  Host.divf (Host.reduceAdd Y (constant S_ .f32 0x00000000#32) reducesTo_S1024x1024_S1024_d0 h_S_) (broadcastInDim S1024 ![] bcast_S_S1024 (constant S_ .f32 0x44800000#32))

/-- the number of rows less the correction, which is zero, -/
def count : FVec Ideal S_ .f32 := subf (constant S_ .f32 0x44800000#32) (sitofp .f32 (constantI S_ 32 0#32))

/-- the columns less their means, inside the variance, -/
def centred (Y : FVec Ideal S1024x1024 .f32) : FVec Ideal S1024x1024 .f32 :=
  subf Y (broadcastInDim S1024x1024 ![0, 1] bcast_S1x1024_S1024x1024_0_1 (Host.divf
    (broadcastInDim S1x1024 ![1] bcast_S1024_S1x1024_1 (Host.reduceAdd Y (constant S_ .f32 0x00000000#32) reducesTo_S1024x1024_S1024_d0 h_S_))
    (broadcastInDim S1x1024 ![] bcast_S_S1x1024 (constant S_ .f32 0x44800000#32))))

/-- the variances, -/
def varOf (Y : FVec Ideal S1024x1024 .f32) : FVec Ideal S1024 .f32 :=
  select (broadcastInDim S1024 ![] bcast_S_S1024 (cmpf .ogt count (constant S_ .f32 0x00000000#32)))
    (Host.divf (Host.reduceAdd (mulf (centred Y) (centred Y)) (constant S_ .f32 0x00000000#32) reducesTo_S1024x1024_S1024_d0 h_S_) (broadcastInDim S1024 ![] bcast_S_S1024 count))
    (broadcastInDim S1024 ![] bcast_S_S1024 (constant S_ .f32 0x7FC00000#32))

/-- one row of length 1024 laid under every row, -/
def under (v : FVec Ideal S1024 .f32) : FVec Ideal S1024x1024 .f32 :=
  broadcastInDim S1024x1024 ![0, 1] bcast_S1x1024_S1024x1024_0_1 (broadcastInDim S1x1024 ![1] bcast_S1024_S1x1024_1 v)

/-- and the activations. -/
def actOf (Y : FVec Ideal S1024x1024 .f32) (g be : FVec Ideal S1024 .f32) : FVec Ideal S1024x1024 .f32 :=
  maximumf (addf (Host.divf (mulf (under g) (subf Y (under (meanOf Y))))
    (under (Host.sqrt (addf (varOf Y) (broadcastInDim S1024 ![] bcast_S_S1024 (constant S_ .f32 0x3A83126F#32)))))) (under be))
    (broadcastInDim S1024x1024 ![] bcast_S_S1024x1024 (constant S_ .f32 0x00000000#32))

section
variable (Y : Vec Ideal S1024x1024 .f32)

theorem meanOf_apply (j : Fin 1024) : meanOf Y (ix1 j) = Norm.refMean (fun i => Y (ix2 i j)) := by
  unfold Norm.refMean Norm.rows
  pointwise [meanOf]

theorem count_apply (i : S_.Idx) : count i = Norm.rows := by
  unfold Norm.rows
  pointwise [count]
  rw [show FloatOps.sitofp (F := Ideal) .f32 (0#32) = (0 : EReal) by show (((0#32 : BitVec 32).toInt : ℝ) : EReal) = 0; simp, sub_zero]

theorem centred_apply (i j : Fin 1024) : centred Y (ix2 i j) = Y (ix2 i j) - Norm.refMean (fun i => Y (ix2 i j)) := by
  unfold Norm.refMean Norm.rows
  pointwise [centred]

theorem varOf_apply (j : Fin 1024) : varOf Y (ix1 j) = Norm.refVar (fun i => Y (ix2 i j)) := by
  unfold Norm.refVar
  pointwise [varOf]
  rw [count_apply, if_pos (by rw [Norm.rows_eq]; exact EReal.coe_pos.mpr (by norm_num))]
  simp only [centred_apply]

theorem under_apply (v : Vec Ideal S1024 .f32) (i j : Fin 1024) : under v (ix2 i j) = v (ix1 j) := by
  pointwise [under]

theorem actOf_apply (g be : Vec Ideal S1024 .f32) (i j : Fin 1024) :
    actOf Y g be (ix2 i j) = Norm.refAct (fun i => Y (ix2 i j)) (g (ix1 j)) (be (ix1 j)) i := by
  unfold Norm.refAct Norm.eps
  rw [← meanOf_apply, ← varOf_apply]
  pointwise [actOf, under]

end

/-! ## The results -/

section
variable (x0 x1 : Vec Ideal S512x7x7x256 .f32) (x2 : Vec Ideal S12544x1024 .f32) (x3 x4 x5 : Vec Ideal S1024 .f32)
  (x6 : Vec Ideal S1024x1024 .f32) (x7 x8 x9 : Vec Ideal S1024 .f32) (x10 : Vec Ideal S1024x81 .f32) (x11 : Vec Ideal S81 .f32)
  (x12 : Vec Ideal S1024x324 .f32) (x13 : Vec Ideal S324 .f32)

/-- Entry `(i, k)` of the pooled features laid out as a matrix of 1024 rows. -/
def pooled (i : Fin 1024) (k : Fin 12544) : EReal :=
  if h : i.val < 512 then x0 (ix4 ⟨i.val, h⟩ ⟨k.val / 1792, by omega⟩ ⟨k.val / 256 % 7, by omega⟩ ⟨k.val % 256, by omega⟩)
  else x1 (ix4 ⟨i.val - 512, by omega⟩ ⟨k.val / 1792, by omega⟩ ⟨k.val / 256 % 7, by omega⟩ ⟨k.val % 256, by omega⟩)

theorem val_v1_apply (i : Fin 1024) (k : Fin 12544) : val_main_v1 (F := Ideal) x0 x1 (ix2 i k) = pooled x0 x1 i k := by
  unfold pooled
  pointwise [val_main_v1, val_main_v0]

theorem val_v5_apply (i j : Fin 1024) : val_main_v5 (F := Ideal) x0 x1 x2 x3 (ix2 i j) = ∑ k, pooled x0 x1 i k * x2 (ix2 k j) + x3 (ix1 j) := by
  simp only [← val_v1_apply]
  pointwise [val_main_v5, val_main_v2, val_main_v4, val_main_v3]

theorem val_v25_eq : val_main_v25 (F := Ideal) x0 x1 x2 x3 x4 x5 = actOf (val_main_v5 (F := Ideal) x0 x1 x2 x3) x4 x5 := rfl
theorem val_v49_eq : val_main_v49 (F := Ideal) x0 x1 x2 x3 x4 x5 x6 x7 x8 x9 = actOf (val_main_v29 (F := Ideal) x0 x1 x2 x3 x4 x5 x6 x7) x8 x9 := rfl

theorem val_v29_apply (i j : Fin 1024) : val_main_v29 (F := Ideal) x0 x1 x2 x3 x4 x5 x6 x7 (ix2 i j)
    = ∑ k, val_main_v25 (F := Ideal) x0 x1 x2 x3 x4 x5 (ix2 i k) * x6 (ix2 k j) + x7 (ix1 j) := by
  pointwise [val_main_v29, val_main_v26, val_main_v28, val_main_v27]

theorem val_v53_apply (i : Fin 1024) (c : Fin 81) : val_main_v53 (F := Ideal) x0 x1 x2 x3 x4 x5 x6 x7 x8 x9 x10 x11 (ix2 i c)
    = ∑ k, val_main_v49 (F := Ideal) x0 x1 x2 x3 x4 x5 x6 x7 x8 x9 (ix2 i k) * x10 (ix2 k c) + x11 (ix1 c) := by
  pointwise [val_main_v53, val_main_v50, val_main_v52, val_main_v51]

theorem val_v69_apply (i : Fin 1024) (c : Fin 81) (d : Fin 4) : val_main_v69 (F := Ideal) x0 x1 x2 x3 x4 x5 x6 x7 x8 x9 x12 x13 (ix3 i c d)
    = ∑ k, val_main_v49 (F := Ideal) x0 x1 x2 x3 x4 x5 x6 x7 x8 x9 (ix2 i k) * x12 (ix2 k ⟨c.val * 4 + d.val, by omega⟩) + x13 (ix1 ⟨c.val * 4 + d.val, by omega⟩) := by
  pointwise [val_main_v69, val_main_v68, val_main_v65, val_main_v67, val_main_v66]

/-- The word a maximum starts from is the least of the extended reals. -/
theorem bot_word : Ideal.ofBits .f32 0xFF800000#32 = ⊥ := by
  simp [Ideal.ofBits, Ideal.ieee]

theorem val_v64_apply (i : Fin 1024) (c : Fin 81) : val_main_v64 (F := Ideal) x0 x1 x2 x3 x4 x5 x6 x7 x8 x9 x10 x11 (ix2 i c)
    = Norm.soft (fun d => val_main_v53 (F := Ideal) x0 x1 x2 x3 x4 x5 x6 x7 x8 x9 x10 x11 (ix2 i d)) c := by
  unfold Norm.soft
  pointwise [val_main_v64, val_main_v63, val_main_v62, val_main_v61, val_main_v60, val_main_v59, val_main_v58, val_main_v57, val_main_v56, val_main_v55, val_main_v54, val_main_cst_6, val_main_cst_7, val_main_cst_8, bot_word, max_bot_left]

end

end Cert.ReferenceIdeal.Hand

end
-- ==== Proof.AAcc.lean ====
/- The accumulator after the last point: the whole product of the pooled features with the first weights. -/
module

public import proofs.«01_k».proof.Proof.ABlocks
public import proofs.«01_k».proof.Proof.RefVals

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen
open Cert.ReferenceIdeal.Hand (pooled)

variable (m : (ℓ : Loc nD τ sig) → Buf (Elt Ideal) ℓ) (c : Dev nD)

/-- One point's contribution to an entry. -/
def term (i j : Fin 1024) (t : Fin cfg0.N) : EReal := partAt (iblk m c 0 t) (iblk m c 1 t) (iblk m c 2 t) i j

/-- After point `n` the accumulator holds the contributions of the points up to it. -/
theorem accAt_sum (i j : Fin 1024) : ∀ (n : ℕ) (h : n < cfg0.N),
    accAt m c n h (ix2 i j) = ∑ t : Fin (n + 1), term m c i j ⟨t.val, Nat.lt_of_lt_of_le t.isLt h⟩
  | 0, h => by
    rw [Fin.sum_univ_one]
    exact accFirst_apply _ _ _ i j
  | n + 1, h => by
    rw [Fin.sum_univ_castSucc]
    refine Eq.trans ?_ (congrArg (· + term m c i j ⟨n + 1, h⟩) (accAt_sum i j n (Nat.lt_of_succ_lt h)))
    have e : accAt m c (n + 1) h = accMiddle (iblk m c 0 ⟨n + 1, h⟩) (iblk m c 1 ⟨n + 1, h⟩) (iblk m c 2 ⟨n + 1, h⟩) (accAt m c n (Nat.lt_of_succ_lt h)) := by
      by_cases h6 : n + 1 = 6
      · exact (accAt_last m c ⟨n + 1, h⟩ (Nat.succ_ne_zero n) h6).trans (accLast_eq _ _ _ _)
      · exact accAt_middle m c ⟨n + 1, h⟩ (Nat.succ_ne_zero n) h6
    rw [e]
    exact accMiddle_apply _ _ _ _ i j

/-- A sum over the 12544 features is the sum over the seven rows of the pooled map, its seven columns, and its 256 channels. -/
theorem sum_features (f : Fin 12544 → EReal) :
    ∑ k, f k = ∑ t : Fin 7, ∑ w : Fin 7, ∑ q : Fin 256, f ⟨1792 * t.val + (256 * w.val + q.val), by omega⟩ := by
  rw [← (finProdFinEquiv (m := 7) (n := 1792)).sum_comp, Fintype.sum_prod_type]
  refine Finset.sum_congr rfl fun t _ => ?_
  rw [← (finProdFinEquiv (m := 7) (n := 256)).sum_comp, Fintype.sum_prod_type]
  refine Finset.sum_congr rfl fun w _ => Finset.sum_congr rfl fun q _ => congrArg f (Fin.ext ?_)
  show (q.val + 256 * w.val) + 1792 * t.val = 1792 * t.val + (256 * w.val + q.val)
  omega

/-- The whole accumulator. -/
theorem acc_apply (h : 6 < cfg0.N) (i j : Fin 1024) : accAt m c 6 h (ix2 i j)
    = ∑ k, pooled (m ((c : Thread nD τ).loc main_arg0)) (m ((c : Thread nD τ).loc main_arg1)) i k * m ((c : Thread nD τ).loc main_arg2) (ix2 k j) := by
  rw [accAt_sum, sum_features]
  refine Finset.sum_congr rfl fun t _ => ?_
  unfold term partAt pooled part
  by_cases hi : i.val < 512
  · rw [dif_pos hi]
    refine Finset.sum_congr rfl fun w _ => Finset.sum_congr rfl fun q _ => ?_
    rw [dif_pos hi, blkA, blkW]
    refine congrArg₂ (· * ·) (congrArg _ ?_) rfl
    congr 1 <;> apply Fin.ext <;> dsimp only <;> omega
  · rw [dif_neg hi]
    refine Finset.sum_congr rfl fun w _ => Finset.sum_congr rfl fun q _ => ?_
    rw [dif_neg hi, blkB, blkW]
    refine congrArg₂ (· * ·) (congrArg _ ?_) rfl
    congr 1 <;> apply Fin.ext <;> dsimp only <;> omega

end Cert.KernelIdeal.Hand

end
-- ==== Proof.AValue.lean ====
/- The arrays the last point writes are the reference's results, where the arrays of both layers hold real numbers. -/
module

public import proofs.«01_k».proof.Proof.AAcc

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen
open Cert.ReferenceIdeal.Hand (pooled actOf actOf_apply val_v25_eq val_v49_eq val_v5_apply val_v29_apply val_v53_apply val_v64_apply val_v69_apply)
open Cert.ReferenceIdeal.Read (val_main_v25 val_main_v49 val_main_v53 val_main_v64 val_main_v69)

/-- Every entry of an array is a real number. -/
def AllReal {s : Shape} (x : FVec Ideal s .f32) : Prop := ∀ i, ∃ r : ℝ, x i = (r : EReal)

variable (m : (ℓ : Loc nD τ sig) → Buf (Elt Ideal) ℓ) (c : Dev nD)

/-- The nine arrays both layers up to the second scale are made of hold real numbers. -/
structure Reals : Prop where
  r0 : AllReal (m ((c : Thread nD τ).loc main_arg0))
  r1 : AllReal (m ((c : Thread nD τ).loc main_arg1))
  r2 : AllReal (m ((c : Thread nD τ).loc main_arg2))
  r3 : AllReal (m ((c : Thread nD τ).loc main_arg3))
  r4 : AllReal (m ((c : Thread nD τ).loc main_arg4))
  r5 : AllReal (m ((c : Thread nD τ).loc main_arg5))
  r6 : AllReal (m ((c : Thread nD τ).loc main_arg6))
  r7 : AllReal (m ((c : Thread nD τ).loc main_arg7))
  r8 : AllReal (m ((c : Thread nD τ).loc main_arg8))

variable (t : Fin cfg0.N) (h6 : t.val = 6)

theorem pooled_real (h : Reals m c) (i : Fin 1024) (k : Fin 12544) : ∃ r : ℝ, pooled (m ((c : Thread nD τ).loc main_arg0)) (m ((c : Thread nD τ).loc main_arg1)) i k = (r : EReal) := by
  unfold pooled
  split
  · exact h.r0 _
  · exact h.r1 _

include h6 in
/-- The accumulator the last point reads its first layer from. -/
theorem first_apply (i j : Fin 1024) : accLast (iblk m c 0 t) (iblk m c 1 t) (iblk m c 2 t) (accAt m c (t.val - 1) (by have := t.isLt; omega)) (ix2 i j)
    = ∑ k, pooled (m ((c : Thread nD τ).loc main_arg0)) (m ((c : Thread nD τ).loc main_arg1)) i k * (m ((c : Thread nD τ).loc main_arg2)) (ix2 k j) := by
  rw [← accAt_last m c t (by omega) h6]
  obtain ⟨n, hn⟩ := t
  cases h6
  exact acc_apply m c hn i j

theorem first_real (h : Reals m c) (i j : Fin 1024) : ∃ r : ℝ, ∑ k, pooled (m ((c : Thread nD τ).loc main_arg0)) (m ((c : Thread nD τ).loc main_arg1)) i k * (m ((c : Thread nD τ).loc main_arg2)) (ix2 k j) = (r : EReal) :=
  Norm.sum_mul_real _ _ (fun k => pooled_real m c h i k) (fun k => h.r2 _)

/-- The first layer, of the products before the bias is added, is the reference's. -/
theorem layer1 (h : Reals m c) (i k : Fin 1024) :
    Norm.act (fun i => ∑ q, pooled (m ((c : Thread nD τ).loc main_arg0)) (m ((c : Thread nD τ).loc main_arg1)) i q * (m ((c : Thread nD τ).loc main_arg2)) (ix2 q k)) ((m ((c : Thread nD τ).loc main_arg4)) (ix1 k)) ((m ((c : Thread nD τ).loc main_arg5)) (ix1 k)) i
      = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i k) := by
  rw [val_v25_eq, actOf_apply]
  simp only [val_v5_apply]
  exact Norm.act_eq _ _ _ _ (fun i => first_real m c h i k) (h.r3 _) (h.r4 _) i

theorem layer1_real (h : Reals m c) (i k : Fin 1024) : ∃ r : ℝ, val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i k) = (r : EReal) := by
  rw [← layer1 m c h]
  exact Norm.act_real _ _ _ (fun i => first_real m c h i k) (h.r4 _) (h.r5 _) i

include h6 in
theorem hidden_eq (h : Reals m c) (i j : Fin 1024) : lastHidden (iblk m c 0 t) (iblk m c 1 t) (iblk m c 2 t) (iblk m c 3 t) (iblk m c 4 t) (iblk m c 5 t) (accAt m c (t.val - 1) (by have := t.isLt; omega)) (ix2 i j)
    = ∑ k, val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i k) * (m ((c : Thread nD τ).loc main_arg6)) (ix2 k j) := by
  rw [lastHidden_apply]
  refine Finset.sum_congr rfl fun k _ => congrArg₂ (· * ·) ?_ (blk5 m c t k j)
  have e : col (accLast (iblk m c 0 t) (iblk m c 1 t) (iblk m c 2 t) (accAt m c (t.val - 1) (by have := t.isLt; omega))) k = fun i => ∑ q, pooled (m ((c : Thread nD τ).loc main_arg0)) (m ((c : Thread nD τ).loc main_arg1)) i q * (m ((c : Thread nD τ).loc main_arg2)) (ix2 q k) :=
    funext fun i => first_apply m c t h6 i k
  rw [e, blk3, blk4]
  exact layer1 m c h i k

theorem hidden_real (h : Reals m c) (i j : Fin 1024) : ∃ r : ℝ, ∑ k, val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i k) * (m ((c : Thread nD τ).loc main_arg6)) (ix2 k j) = (r : EReal) :=
  Norm.sum_mul_real _ _ (fun k => layer1_real m c h i k) (fun k => h.r6 _)

include h6 in
/-- The second layer is the reference's. -/
theorem layer2 (h : Reals m c) (i k : Fin 1024) : act2 (iblk m c 0 t) (iblk m c 1 t) (iblk m c 2 t) (iblk m c 3 t) (iblk m c 4 t) (iblk m c 5 t) (iblk m c 6 t) (iblk m c 7 t) (accAt m c (t.val - 1) (by have := t.isLt; omega)) i k = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 i k) := by
  unfold act2
  have e : col (lastHidden (iblk m c 0 t) (iblk m c 1 t) (iblk m c 2 t) (iblk m c 3 t) (iblk m c 4 t) (iblk m c 5 t) (accAt m c (t.val - 1) (by have := t.isLt; omega))) k = fun i => ∑ q, val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i q) * (m ((c : Thread nD τ).loc main_arg6)) (ix2 q k) :=
    funext fun i => hidden_eq m c t h6 h i k
  rw [e, blk6, blk7, val_v49_eq, actOf_apply]
  simp only [val_v29_apply]
  exact Norm.act_eq _ _ _ _ (fun i => hidden_real m c h i k) (h.r7 _) (h.r8 _) i

include h6 in
/-- The class scores, -/
theorem logits_eq (h : Reals m c) (i : Fin 1024) (d : Fin 81) : lastLogits (iblk m c 0 t) (iblk m c 1 t) (iblk m c 2 t) (iblk m c 3 t) (iblk m c 4 t) (iblk m c 5 t) (iblk m c 6 t) (iblk m c 7 t) (iblk m c 8 t) (iblk m c 9 t) (accAt m c (t.val - 1) (by have := t.isLt; omega)) (ix2 d i) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 i d) := by
  rw [lastLogits_apply, val_v53_apply, blk9]
  refine congrArg (· + _) (Finset.sum_congr rfl fun k _ => ?_)
  rw [layer2 m c t h6 h, blk8, mul_comm]

include h6 in
/-- their probabilities, -/
theorem probs_eq (h : Reals m c) (i : Fin 1024) (d : Fin 81) : lastProbs (iblk m c 0 t) (iblk m c 1 t) (iblk m c 2 t) (iblk m c 3 t) (iblk m c 4 t) (iblk m c 5 t) (iblk m c 6 t) (iblk m c 7 t) (iblk m c 8 t) (iblk m c 9 t) (accAt m c (t.val - 1) (by have := t.isLt; omega)) (ix2 d i) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 i d) := by
  rw [lastProbs_apply, val_v64_apply]
  simp only [logits_eq m c t h6 h]

include h6 in
/-- and the box offsets. -/
theorem deltas_eq (h : Reals m c) (i : Fin 1024) (d : Fin 81) (e : Fin 4) :
    lastDeltas (iblk m c 0 t) (iblk m c 1 t) (iblk m c 2 t) (iblk m c 3 t) (iblk m c 4 t) (iblk m c 5 t) (iblk m c 6 t) (iblk m c 7 t) (iblk m c 10 t) (iblk m c 11 t) (accAt m c (t.val - 1) (by have := t.isLt; omega)) (ix2 ⟨d.val * 4 + e.val, by omega⟩ i) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (ix3 i d e) := by
  rw [lastDeltas_apply, val_v69_apply, blk11]
  refine congrArg (· + _) (Finset.sum_congr rfl fun k _ => ?_)
  rw [layer2 m c t h6 h, blk10, mul_comm]

end Cert.KernelIdeal.Hand

end
-- ==== Proof.ATail.lean ====
/- The kernel's three results after the run: the arrays the region writes, transposed by the host. -/
module

public import proofs.«01_k».proof.Proof.AValue

@[expose] public section

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal Cert.KernelIdeal.Gen
open Cert.ReferenceIdeal.Read (val_main_v53 val_main_v64 val_main_v69)

variable (m : (ℓ : Loc nD τ sig) → Buf (Elt Ideal) ℓ) (c : Dev nD) (ρ : Dev nD → PrngReg)

/-! ## What the region leaves: the last point's blocks, each a whole array -/

/-- The class scores, -/
theorem arr12 : (dats m 0 c).arrAt 12 cfg0.N = lastLogits (iblk m c 0 t0_6) (iblk m c 1 t0_6) (iblk m c 2 t0_6) (iblk m c 3 t0_6) (iblk m c 4 t0_6) (iblk m c 5 t0_6) (iblk m c 6 t0_6) (iblk m c 7 t0_6) (iblk m c 8 t0_6) (iblk m c 9 t0_6) (accAt m c (t0_6.val - 1) (Nat.lt_of_le_of_lt (Nat.sub_le _ _) (show t0_6.val < cfg0.N from t0_6.isLt))) := by
  refine (dats m 0 c).arrAt_eq_of_after_last 12 t0_6 (by decide +kernel) _ fun j => ?_
  blk_simp
  rw [aft12]

/-- the probabilities, -/
theorem arr13 : (dats m 0 c).arrAt 13 cfg0.N = lastProbs (iblk m c 0 t0_6) (iblk m c 1 t0_6) (iblk m c 2 t0_6) (iblk m c 3 t0_6) (iblk m c 4 t0_6) (iblk m c 5 t0_6) (iblk m c 6 t0_6) (iblk m c 7 t0_6) (iblk m c 8 t0_6) (iblk m c 9 t0_6) (accAt m c (t0_6.val - 1) (Nat.lt_of_le_of_lt (Nat.sub_le _ _) (show t0_6.val < cfg0.N from t0_6.isLt))) := by
  refine (dats m 0 c).arrAt_eq_of_after_last 13 t0_6 (by decide +kernel) _ fun j => ?_
  blk_simp
  rw [aft13]

/-- the box offsets. -/
theorem arr14 : (dats m 0 c).arrAt 14 cfg0.N = lastDeltas (iblk m c 0 t0_6) (iblk m c 1 t0_6) (iblk m c 2 t0_6) (iblk m c 3 t0_6) (iblk m c 4 t0_6) (iblk m c 5 t0_6) (iblk m c 6 t0_6) (iblk m c 7 t0_6) (iblk m c 10 t0_6) (iblk m c 11 t0_6) (accAt m c (t0_6.val - 1) (Nat.lt_of_le_of_lt (Nat.sub_le _ _) (show t0_6.val < cfg0.N from t0_6.isLt))) := by
  refine (dats m 0 c).arrAt_eq_of_after_last 14 t0_6 (by decide +kernel) _ fun j => ?_
  blk_simp
  rw [aft14]

/-! ## What the host makes of them -/

theorem tail_v11 : Pipeline.afterTail₀ cfgs (dats m) 0 (V0 m) [hostOps1] c main_v11
    = transpose S1024x81 [1, 0] ((dats m 0 c).arrAt 12 cfg0.N) transposes_S81x1024_S1024x81_1_0 := by
  unfold Pipeline.afterTail₀
  show StableHlo.after hostOps1 _ (Proc.devRef .tc main_v11) = _
  after_results_simp
  exact congrArg (fun x => transpose S1024x81 [1, 0] x transposes_S81x1024_S1024x81_1_0)
    (Pipeline.withArrays_arr spec0 launch0.win.arr_inj c (V0 m c) (fun w => (dats m 0 c).arrAt w cfg0.N) 12)

theorem tail_v12 : Pipeline.afterTail₀ cfgs (dats m) 0 (V0 m) [hostOps1] c main_v12
    = transpose S1024x81 [1, 0] ((dats m 0 c).arrAt 13 cfg0.N) transposes_S81x1024_S1024x81_1_0 := by
  unfold Pipeline.afterTail₀
  show StableHlo.after hostOps1 _ (Proc.devRef .tc main_v12) = _
  after_results_simp
  exact congrArg (fun x => transpose S1024x81 [1, 0] x transposes_S81x1024_S1024x81_1_0)
    (Pipeline.withArrays_arr spec0 launch0.win.arr_inj c (V0 m c) (fun w => (dats m 0 c).arrAt w cfg0.N) 13)

theorem tail_v14 : Pipeline.afterTail₀ cfgs (dats m) 0 (V0 m) [hostOps1] c main_v14
    = transpose S1024x81x4 [2, 0, 1] (shapeCast S81x4x1024 ((dats m 0 c).arrAt 14 cfg0.N) shapeCasts_S324x1024_S81x4x1024) transposes_S81x4x1024_S1024x81x4_2_0_1 := by
  unfold Pipeline.afterTail₀
  show StableHlo.after hostOps1 _ (Proc.devRef .tc main_v14) = _
  after_results_simp
  exact congrArg (fun x => transpose S1024x81x4 [2, 0, 1] (shapeCast S81x4x1024 x shapeCasts_S324x1024_S81x4x1024) transposes_S81x4x1024_S1024x81x4_2_0_1)
    (Pipeline.withArrays_arr spec0 launch0.win.arr_inj c (V0 m c) (fun w => (dats m 0 c).arrAt w cfg0.N) 14)

/-! ## The results are the reference's terms of the arguments -/

theorem transposed (X : FVec Ideal S81x1024 .f32) (i : Fin 1024) (d : Fin 81) :
    transpose S1024x81 [1, 0] X transposes_S81x1024_S1024x81_1_0 (ix2 i d) = X (ix2 d i) := by
  pointwise

theorem unfolded (X : FVec Ideal S324x1024 .f32) (i : Fin 1024) (d : Fin 81) (e : Fin 4) :
    transpose S1024x81x4 [2, 0, 1] (shapeCast S81x4x1024 X shapeCasts_S324x1024_S81x4x1024) transposes_S81x4x1024_S1024x81x4_2_0_1 (ix3 i d e)
      = X (ix2 ⟨d.val * 4 + e.val, by omega⟩ i) := by
  pointwise

theorem logits (h : Reals m c) : Pipeline.afterTail₀ cfgs (dats m) 0 (V0 m) [hostOps1] c main_v11 = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [tail_v11, arr12]
  funext y
  idx_vars y
  exact (transposed _ _ _).trans (logits_eq m c t0_6 rfl h _ _)

theorem probs (h : Reals m c) : Pipeline.afterTail₀ cfgs (dats m) 0 (V0 m) [hostOps1] c main_v12 = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [tail_v12, arr13]
  funext y
  idx_vars y
  exact (transposed _ _ _).trans (probs_eq m c t0_6 rfl h _ _)

theorem deltas (h : Reals m c) : Pipeline.afterTail₀ cfgs (dats m) 0 (V0 m) [hostOps1] c main_v14 = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  rw [tail_v14, arr14]
  funext y
  idx_vars y
  exact (unfolded _ _ _ _).trans (deltas_eq m c t0_6 rfl h _ _ _)

/-- The run: the three results as the reference states them, where the first nine arrays hold real numbers. -/
theorem resultRun (h : ∀ c, Reals m c) : θ_run defs (onTc (τ := τ) (main (F := Ideal))) ⟨m, fun _ => 0, ρ⟩ (fun r => ∀ c : Dev nD,
      r.2.mem ((c.tc : Thread nD τ).loc main_v11) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v12) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v14) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :=
  (θ_run defs _ _).mono (fun r hr c => ⟨((hr c).2 main_v11 (by decide)).trans (logits m c (h c)),
    ((hr c).2 main_v12 (by decide)).trans (probs m c (h c)), ((hr c).2 main_v14 (by decide)).trans (deltas m c (h c))⟩) (run m ρ)

end Cert.KernelIdeal.Hand

end
-- ==== Proof.APre.lean ====
/- The stated precondition, read entry by entry: the arrays it names hold real numbers. -/
module

public import proofs.«01_k».proof.Defs
public import proofs.«01_k».proof.Proof.AValue
public import Idealize.ShloMosaic.Lib.ReduceAll

@[expose] public section

set_option maxRecDepth 16384

noncomputable section

namespace Cert.Pre_finite

open Idealize.ShloMosaic

/-- The shape relations the precondition's operations state. -/
theorem facts : Facts where
  bcast_S_S512x7x7x256 := by decide
  reducesTo_S512x7x7x256_S_d0_1_2_3 := by decide
  h_S_ := by decide
  bcast_S_S12544x1024 := by decide
  reducesTo_S12544x1024_S_d0_1 := by decide
  bcast_S_S1024 := by decide
  reducesTo_S1024_S_d0 := by decide
  bcast_S_S1024x1024 := by decide
  reducesTo_S1024x1024_S_d0_1 := by decide

instance : Subsingleton S_.Idx := ⟨fun a b => funext fun k => k.elim0⟩

/-- A value whose size is below the infinite one is a real number. -/
theorem real_of_lt (x : Ideal .f32) (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hl : max (x : EReal) (-(x : EReal)) < ⊤ := by
    by_contra hn
    simp [hn] at h'
  rw [max_lt_iff] at hl
  refine ⟨EReal.toReal x, (EReal.coe_toReal hl.1.ne fun hb => ?_).symm⟩
  rw [show (x : EReal) = ⊥ from hb] at hl
  simp at hl

/-- One array's test: every size below the infinite one, all of them together. -/
def test {s : Shape} {axes : List (Fin s.rank)} (b : S_.BroadcastsInDim s (![] : Fin 0 → Fin s.rank)) (r : s.ReducesTo axes S_) (u : 0 < S_.numel)
    (x : FVec Ideal s .f32) : IVec S_ 1 :=
  Host.reduce IntOp.andi (cmpf .olt (Host.absf x) (broadcastInDim s ![] b (constant S_ .f32 0x7F800000#32))) (constantI S_ 1 1#1) r u

theorem test_real {s : Shape} {axes : List (Fin s.rank)} (b : S_.BroadcastsInDim s (![] : Fin 0 → Fin s.rank)) (r : s.ReducesTo axes S_) (u : 0 < S_.numel)
    (x : FVec Ideal s .f32) (j : S_.Idx) (h : test b r u x j = 1#1) : Cert.KernelIdeal.Hand.AllReal x := fun i =>
  real_of_lt (x i) (Host.reduce_andi_all _ _ _ _ j h i)

theorem both (x y : IVec S_ 1) (j : S_.Idx) (h : andi x y j = 1#1) : x j = 1#1 ∧ y j = 1#1 := IntOp.andi_eq_one.1 h

variable [Facts]
open Facts

/-- The precondition is the nine arrays' tests. -/
theorem fn_eq (x0 x1 : FVec Ideal S512x7x7x256 .f32) (x2 : FVec Ideal S12544x1024 .f32) (x3 x4 x5 : FVec Ideal S1024 .f32) (x6 : FVec Ideal S1024x1024 .f32)
    (x7 x8 x9 : FVec Ideal S1024 .f32) (x10 : FVec Ideal S1024x81 .f32) (x11 : FVec Ideal S81 .f32) (x12 : FVec Ideal S1024x324 .f32) (x13 : FVec Ideal S324 .f32) :
    fn (F := Ideal) x0 x1 x2 x3 x4 x5 x6 x7 x8 x9 x10 x11 x12 x13
      = andi (andi (andi (andi (andi (andi (andi (andi
          (test bcast_S_S512x7x7x256 reducesTo_S512x7x7x256_S_d0_1_2_3 h_S_ x0)
          (test bcast_S_S512x7x7x256 reducesTo_S512x7x7x256_S_d0_1_2_3 h_S_ x1))
          (test bcast_S_S12544x1024 reducesTo_S12544x1024_S_d0_1 h_S_ x2))
          (test bcast_S_S1024 reducesTo_S1024_S_d0 h_S_ x3))
          (test bcast_S_S1024 reducesTo_S1024_S_d0 h_S_ x4))
          (test bcast_S_S1024 reducesTo_S1024_S_d0 h_S_ x5))
          (test bcast_S_S1024x1024 reducesTo_S1024x1024_S_d0_1 h_S_ x6))
          (test bcast_S_S1024 reducesTo_S1024_S_d0 h_S_ x7))
          (test bcast_S_S1024 reducesTo_S1024_S_d0 h_S_ x8) := rfl

end Cert.Pre_finite

namespace Cert.KernelIdeal.Hand

open Idealize.ShloMosaic Idealize.ShloMosaic.TcCoe Idealize.SL.Sem
open Cert.KernelIdeal Cert.Pre_finite

theorem reals [Cert.Pre_finite.Facts] (m : (ℓ : Loc nD τ sig) → Buf (Elt Ideal) ℓ) (h : Cert.Pre_KernelIdeal_finite m) (c : Dev nD) : Reals m c := by
  have e := congrFun (h c) (Shape.Idx.first Facts.h_S_)
  rw [fn_eq] at e
  obtain ⟨e, h8⟩ := both _ _ _ e
  obtain ⟨e, h7⟩ := both _ _ _ e
  obtain ⟨e, h6⟩ := both _ _ _ e
  obtain ⟨e, h5⟩ := both _ _ _ e
  obtain ⟨e, h4⟩ := both _ _ _ e
  obtain ⟨e, h3⟩ := both _ _ _ e
  obtain ⟨e, h2⟩ := both _ _ _ e
  obtain ⟨h0, h1⟩ := both _ _ _ e
  exact ⟨test_real _ _ _ _ _ h0, test_real _ _ _ _ _ h1, test_real _ _ _ _ _ h2, test_real _ _ _ _ _ h3, test_real _ _ _ _ _ h4,
    test_real _ _ _ _ _ h5, test_real _ _ _ _ _ h6, test_real _ _ _ _ _ h7, test_real _ _ _ _ _ h8⟩

end Cert.KernelIdeal.Hand

end
-- ==== Proof.lean ====
/- The certificate: the frames of the kernel, of its ideal reading and of the reference, and the equality of the last two. -/
module

public import proofs.«01_k».proof.Defs
public import proofs.«01_k».proof.Proof.KRun
public import proofs.«01_k».proof.Proof.IRun
public import proofs.«01_k».proof.Proof.ATail
public import proofs.«01_k».proof.Proof.APre
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.ReferenceIdeal.Read (val_main_v53 val_main_v64 val_main_v69 val_main_v53_eq val_main_v64_eq val_main_v69_eq)

/-- The kernel ends with its arguments unchanged and its semaphores at zero. -/
theorem kernel_frame : Cert.quiescent_Kernel (hKernel := Cert.Kernel.Gen.facts) :=
  fun m ρ _ => Cert.Kernel.Hand.frameRun m ρ

/-- So does the kernel read over the extended reals. -/
theorem ideal_frame : Cert.quiescent_KernelIdeal (hKernelIdeal := Cert.KernelIdeal.Gen.facts) :=
  fun m ρ _ => Cert.KernelIdeal.Hand.frameRun m ρ

/-- So does the reference, which has no semaphores. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩)
    (Cert.ReferenceIdeal.Value.run (F := Ideal) m ρ)

section
open Cert.ReferenceIdeal
variable (m : (ℓ : Loc nD τ sig) → Buf (Elt Ideal) ℓ) (ρ : Dev nD → PrngReg)

/-- The reference's run, its results as terms of its arguments. -/
theorem reference_run : θ_run defs (onTc (τ := τ) (main (F := Ideal))) ⟨m, fun _ => 0, ρ⟩ (fun r => ∀ c : Dev nD,
      r.2.mem ((c : Thread nD τ).loc main_v53) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v64) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v69) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))) :=
  (θ_run defs _ _).mono (fun r h c => ⟨(h c).1.trans (val_main_v53_eq _), (h c).2.1.trans (val_main_v64_eq _), (h c).2.2.1.trans (val_main_v69_eq _)⟩)
    (Cert.ReferenceIdeal.Value.run (F := Ideal) m ρ)

end

section
open Cert.KernelIdeal

/-- From arguments whose first nine arrays are finite, the kernel over the extended reals computes the reference's results. -/
theorem equal : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)),
    fun c => val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)),
    fun c => val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)), ?_, ?_⟩
  · exact (θ_run Cert.KernelIdeal.defs _ _).mono (fun r h c => ⟨(h.1 c).1, (h.1 c).2.1, (h.1 c).2.2, h.2.1 c⟩)
      (θ_run_and (Cert.KernelIdeal.Hand.resultRun m g fun c => @Cert.KernelIdeal.Hand.reals Cert.Pre_finite.facts m hpre c)
        (Cert.KernelIdeal.Hand.frameRun m g))
  · refine (θ_run Cert.ReferenceIdeal.defs _ _).mono (fun r h c => ?_)
      (θ_run_and (reference_run m' g') (Cert.ReferenceIdeal.Value.run (F := Ideal) m' g'))
    obtain ⟨e0, e1, e2, e3, e4, e5, e6, e7, e8, e9, e10, e11, e12, e13⟩ := hagree c
    refine ⟨(h.1 c).1.trans ?_, (h.1 c).2.1.trans ?_, (h.1 c).2.2.trans ?_, (h.2 c).2.2.2⟩
    · rw [e0, e1, e2, e3, e4, e5, e6, e7, e8, e9, e10, e11]
    · rw [e0, e1, e2, e3, e4, e5, e6, e7, e8, e9, e10, e11]
    · rw [e0, e1, e2, e3, e4, e5, e6, e7, e8, e9, e12, e13]

end

theorem claim : Cert.Claim := ⟨Cert.Kernel.Gen.facts, Cert.KernelIdeal.Gen.facts, Cert.ReferenceIdeal.Gen.facts, Cert.Pre_finite.facts,
  kernel_frame, ideal_frame, fun m ρ _ => Cert.KernelIdeal.Hand.frameRun m ρ, reference_frame, fun m ρ _ => reference_frame m ρ trivial, trivial, equal⟩

end Cert.Proof

end
